-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal_on_used_rows [hKernelIdeal : Cert.KernelIdeal.Facts] [hReferenceIdeal : Cert.ReferenceIdeal.Facts] [hPre_routed : Cert.Pre_routed.Facts] [hOn_used_rows : Cert.On_used_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![36864, 1024]⟩ : Shape).Idx, (Cert.On_used_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v14) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![36864, 1024]⟩ : Shape).Idx, (Cert.On_used_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v22) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)) (v1 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_v7) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)) (v1 : (c : Dev Cert.Kernel5Ideal.nD) → Buf (Elt Ideal) ((c.tc : Thread Cert.Kernel5Ideal.nD Cert.Kernel5Ideal.τ).loc Cert.Kernel5Ideal.main_v7)) (v2 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_v7) = v1 c
          ∧ r.2.mem ((c.tc : Thread Cert.Kernel5Ideal.nD Cert.Kernel5Ideal.τ).loc Cert.Kernel5Ideal.main_v8) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v25) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v13)) (v1 : (c : Dev Cert.Kernel8Ideal.nD) → Buf (Elt Ideal) ((c.tc : Thread Cert.Kernel8Ideal.nD Cert.Kernel8Ideal.τ).loc Cert.Kernel8Ideal.main_v14)) (v2 : (c : Dev Cert.Kernel8Ideal.nD) → Buf (Elt Ideal) ((c.tc : Thread Cert.Kernel8Ideal.nD Cert.Kernel8Ideal.τ).loc Cert.Kernel8Ideal.main_v15)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13) = v0 c
          ∧ r.2.mem ((c.tc : Thread Cert.Kernel8Ideal.nD Cert.Kernel8Ideal.τ).loc Cert.Kernel8Ideal.main_v14) = v1 c
          ∧ r.2.mem ((c.tc : Thread Cert.Kernel8Ideal.nD Cert.Kernel8Ideal.τ).loc Cert.Kernel8Ideal.main_v15) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v29) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v12)) (v1 : (c : Dev Cert.Kernel9Ideal.nD) → Buf (Elt Ideal) ((c.tc : Thread Cert.Kernel9Ideal.nD Cert.Kernel9Ideal.τ).loc Cert.Kernel9Ideal.main_v13)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12) = v0 c
          ∧ r.2.mem ((c.tc : Thread Cert.Kernel9Ideal.nD Cert.Kernel9Ideal.τ).loc Cert.Kernel9Ideal.main_v13) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_routed : Cert.Pre_routed.Facts) (hOn_used_rows : Cert.On_used_rows.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_on_used_rows (hKernelIdeal := hKernelIdeal) (hReferenceIdeal := hReferenceIdeal) (hPre_routed := hPre_routed) (hOn_used_rows := hOn_used_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== On_used_rows.lean ====
abbrev S36864x1024 : Shape := ⟨2, ![36864, 1024]⟩
abbrev S72 : Shape := ⟨1, ![72]⟩
abbrev S1 : Shape := ⟨1, ![1]⟩
abbrev S8x1024x7168 : Shape := ⟨3, ![8, 1024, 7168]⟩
abbrev S8x3584x1024 : Shape := ⟨3, ![8, 3584, 1024]⟩
abbrev S36864 : Shape := ⟨1, ![36864]⟩
abbrev S_ : Shape := ⟨0, ![]⟩
abbrev S36864x1 : Shape := ⟨2, ![36864, 1]⟩
abbrev S1x1 : Shape := ⟨2, ![1, 1]⟩

class Facts : Prop where
  bcast_S_S36864 : S_.BroadcastsInDim S36864 (![] : Fin 0 → Fin S36864.rank)
  bcast_S36864_S36864x1_0 : S36864.BroadcastsInDim S36864x1 (![0] : Fin 1 → Fin S36864x1.rank)
  bcast_S1_S1x1_1 : S1.BroadcastsInDim S1x1 (![1] : Fin 1 → Fin S1x1.rank)
  bcast_S1x1_S36864x1_0_1 : S1x1.BroadcastsInDim S36864x1 (![0, 1] : Fin 2 → Fin S36864x1.rank)
  bcast_S36864x1_S36864x1024_0_1 : S36864x1.BroadcastsInDim S36864x1024 (![0, 1] : Fin 2 → Fin S36864x1024.rank)

variable [Facts]

def fn_where {F : FTy → Type} [FloatOps F] (arg0 : IVec S36864 1) (arg1 : IVec S36864 32) (arg2 : IVec S36864 32) : IVec S36864 32 :=
  let v0 : IVec S36864 32 := select arg0 arg1 arg2
  v0

def fn_floor_divide {F : FTy → Type} [FloatOps F] (arg0 : IVec S36864 32) (arg1 : IVec S_ 32) : IVec S36864 32 :=
  let v0 : IVec S_ 32 := id arg1
  let v1 : IVec S36864 32 := broadcastInDim S36864 ![] bcast_S_S36864 v0
  let v2 : IVec S36864 32 := Host.divsi arg0 v1
  let v3 : IVec S36864 32 := signi arg0
  let v4 : IVec S_ 32 := signi v0
  let v5 : IVec S36864 32 := broadcastInDim S36864 ![] bcast_S_S36864 v4
  let v6 : IVec S36864 1 := cmpi .ne v3 v5
  let v7 : IVec S36864 32 := broadcastInDim S36864 ![] bcast_S_S36864 v0
  let v8 : IVec S36864 32 := Host.remsi arg0 v7
  let c : IVec S_ 32 := constantI S_ 32 0#32
  let v9 : IVec S36864 32 := broadcastInDim S36864 ![] bcast_S_S36864 c
  let v10 : IVec S36864 1 := cmpi .ne v8 v9
  let v11 : IVec S36864 1 := andi v6 v10
  let c_0 : IVec S_ 32 := constantI S_ 32 1#32
  let v12 : IVec S36864 32 := broadcastInDim S36864 ![] bcast_S_S36864 c_0
  let v13 : IVec S36864 32 := subi v2 v12
  let v14 : IVec S36864 32 := fn_where (F := F) v11 v13 v2
  v14

def fn {F : FTy → Type} [FloatOps F] (main_arg0 : FVec F S36864x1024 .bf16) (main_arg1 : IVec S72 32) (main_arg2 : IVec S1 32) (main_arg3 : FVec F S8x1024x7168 .f32) (main_arg4 : FVec F S8x3584x1024 .f32) : IVec S36864x1024 1 :=
  let main_v0 : IVec S36864 32 := iotaInDim S36864 32 0
  let main_c : IVec S_ 32 := constantI S_ 32 512#32
  let main_v1 : IVec S36864 32 := fn_floor_divide (F := F) main_v0 main_c
  let main_v2 : IVec S36864x1 32 := broadcastInDim S36864x1 ![0] bcast_S36864_S36864x1_0 main_v1
  let main_v3 : IVec S1x1 32 := broadcastInDim S1x1 ![1] bcast_S1_S1x1_1 main_arg2
  let main_v4 : IVec S36864x1 32 := broadcastInDim S36864x1 ![0, 1] bcast_S1x1_S36864x1_0_1 main_v3
  let main_v5 : IVec S36864x1 1 := cmpi .slt main_v2 main_v4
  let main_v6 : IVec S36864x1024 1 := broadcastInDim S36864x1024 ![0, 1] bcast_S36864x1_S36864x1024_0_1 main_v5
  main_v6
-- ==== Pre_routed.lean ====
abbrev S36864x1024 : Shape := ⟨2, ![36864, 1024]⟩
abbrev S72 : Shape := ⟨1, ![72]⟩
abbrev S1 : Shape := ⟨1, ![1]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S72 : S_.BroadcastsInDim S72 (![] : Fin 0 → Fin S72.rank)
  reducesTo_S72_S_d0 : S72.ReducesTo [0] S_

variable [Facts]

def fn {F : FTy → Type} [FloatOps F] (main_arg0 : FVec F S36864x1024 .bf16) (main_arg1 : IVec S72 32) (main_arg2 : IVec S1 32) (main_arg3 : FVec F S8x1024x7168 .f32) (main_arg4 : FVec F S8x3584x1024 .f32) : IVec S_ 1 :=
  let main_c : IVec S_ 32 := constantI S_ 32 1#32
  let main_v0 : IVec S1 32 := broadcastInDim S1 ![] bcast_S_S1 main_c
  let main_v1 : IVec S1 1 := cmpi .sge main_arg2 main_v0
  let main_c_0 : IVec S_ 32 := constantI S_ 32 72#32
  let main_v2 : IVec S1 32 := broadcastInDim S1 ![] bcast_S_S1 main_c_0
  let main_v3 : IVec S1 1 := cmpi .sle main_arg2 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  let main_c_2 : IVec S_ 32 := constantI S_ 32 0#32
  let main_v6 : IVec S72 32 := broadcastInDim S72 ![] bcast_S_S72 main_c_2
  let main_v7 : IVec S72 1 := cmpi .sge main_arg1 main_v6
  let main_c_3 : IVec S_ 32 := constantI S_ 32 8#32
  let main_v8 : IVec S72 32 := broadcastInDim S72 ![] bcast_S_S72 main_c_3
  let main_v9 : IVec S72 1 := cmpi .slt main_arg1 main_v8
  let main_v10 : IVec S72 1 := andi main_v7 main_v9
  let main_c_4 : IVec S_ 1 := constantI S_ 1 1#1
  let main_v11 : IVec S_ 1 := (fun x v => Host.reduce IntOp.andi x v reducesTo_S72_S_d0 h_S_) main_v10 main_c_4
  let main_v12 : IVec S_ 1 := andi main_v5 main_v11
  main_v12
-- ==== Kernel.lean ====
abbrev S36864x1024 : Shape := ⟨2, ![36864, 1024]⟩
abbrev S72 : Shape := ⟨1, ![72]⟩
abbrev S1 : Shape := ⟨1, ![1]⟩
abbrev S8x1024x7168 : Shape := ⟨3, ![8, 1024, 7168]⟩
abbrev S8x3584x1024 : Shape := ⟨3, ![8, 3584, 1024]⟩
abbrev S_ : Shape := ⟨0, ![]⟩
abbrev S72x1 : Shape := ⟨2, ![72, 1]⟩
abbrev S512x1024 : Shape := ⟨2, ![512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 21
  | .vmem => 11
  | .smem => 2
  | _ => 0

abbrev bufTy : (tb : Table) → Fin (tcTables nBuf tb) → BufTy
  | .hbm, ⟨0, _⟩ => ⟨S36864x1024, .bf16⟩
  | .hbm, ⟨1, _⟩ => ⟨S72, .i32⟩
  | .hbm, ⟨2, _⟩ => ⟨S8x1024x7168, .f32⟩
  | .hbm, ⟨3, _⟩ => ⟨S8x3584x1024, .f32⟩
  | .hbm, ⟨4, _⟩ => ⟨S8x1024x7168, .bf16⟩
  | .hbm, ⟨5, _⟩ => ⟨S8x3584x1024, .bf16⟩
  | .hbm, ⟨6, _⟩ => ⟨S72, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S72, .i32⟩
  | .hbm, ⟨11, _⟩ => ⟨S72, .i32⟩
  | .hbm, ⟨12, _⟩ => ⟨S_, .i32⟩
  | .hbm, ⟨13, _⟩ => ⟨S72, .i32⟩
  | .hbm, ⟨14, _⟩ => ⟨S72, .i1⟩
  | .hbm, ⟨15, _⟩ => ⟨S_, .i32⟩
  | .hbm, ⟨16, _⟩ => ⟨S72, .i32⟩
  | .hbm, ⟨17, _⟩ => ⟨S72, .i32⟩
  | .hbm, ⟨18, _⟩ => ⟨S72, .i32⟩
  | .hbm, ⟨19, _⟩ => ⟨S72x1, .i32⟩
  | .hbm, ⟨20, _⟩ => ⟨S36864x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S72, .i32⟩
  | .local _ .smem, ⟨1, _⟩ => ⟨S1, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v14 : Ref sig .tc := ⟨.hbm, 20, rfl⟩
abbrev main_v13 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_v13.idx, main_arg2.idx], fun | 0 => main_v13.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c6_i32 : BitVec 32 := 6#32
  let v30 : BitVec 1 := Scalar.cmpi .eq arg1 c6_i32
  let v31 : BitVec 32 := Scalar.extui v30
  let c0_i32_21 : BitVec 32 := 0#32
  let v32 : BitVec 1 := Scalar.cmpi .ne v31 c0_i32_21
  v32

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c7_i32 : BitVec 32 := 7#32
  let v5 : BitVec 32 := Scalar.addi c7_i32 v4
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S36864x1024 : Shape := ⟨2, ![36864, 1024]⟩
abbrev S72 : Shape := ⟨1, ![72]⟩
abbrev S1 : Shape := ⟨1, ![1]⟩
abbrev S8x1024x7168 : Shape := ⟨3, ![8, 1024, 7168]⟩
abbrev S8x3584x1024 : Shape := ⟨3, ![8, 3584, 1024]⟩
abbrev S72x512x1024 : Shape := ⟨3, ![72, 512, 1024]⟩
abbrev S_ : Shape := ⟨0, ![]⟩
abbrev S72x1 : Shape := ⟨2, ![72, 1]⟩
abbrev S72x1024x7168 : Shape := ⟨3, ![72, 1024, 7168]⟩
abbrev S72x512x7168 : Shape := ⟨3, ![72, 512, 7168]⟩
abbrev S72x512x3584 : Shape := ⟨3, ![72, 512, 3584]⟩
abbrev S72x3584x1024 : Shape := ⟨3, ![72, 3584, 1024]⟩

abbrev nBuf : Space → Nat
  | .hbm => 40
  | .vmem => 0
  | .smem => 0
  | _ => 0

abbrev bufTy : (tb : Table) → Fin (tcTables nBuf tb) → BufTy
  | .hbm, ⟨0, _⟩ => ⟨S36864x1024, .bf16⟩
  | .hbm, ⟨1, _⟩ => ⟨S72, .i32⟩
  | .hbm, ⟨2, _⟩ => ⟨S1, .i32⟩
  | .hbm, ⟨3, _⟩ => ⟨S8x1024x7168, .f32⟩
  | .hbm, ⟨4, _⟩ => ⟨S8x3584x1024, .f32⟩
  | .hbm, ⟨5, _⟩ => ⟨S36864x1024, .f32⟩
  | .hbm, ⟨6, _⟩ => ⟨S72x512x1024, .f32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S72, .i32⟩
  | .hbm, ⟨14, _⟩ => ⟨S72x1, .i32⟩
  | .hbm, ⟨15, _⟩ => ⟨S72x1024x7168, .f32⟩
  | .hbm, ⟨16, _⟩ => ⟨S72x512x7168, .f32⟩
  | .hbm, ⟨17, _⟩ => ⟨S72x512x3584, .f32⟩
  | .hbm, ⟨18, _⟩ => ⟨S72x512x3584, .f32⟩
  | .hbm, ⟨19, _⟩ => ⟨S72x512x3584, .f32⟩
  | .hbm, ⟨20, _⟩ => ⟨S72x512x3584, .f32⟩
  | .hbm, ⟨21, _⟩ => ⟨S_, .f32⟩
  | .hbm, ⟨22, _⟩ => ⟨S72x512x3584, .f32⟩
  | .hbm, ⟨23, _⟩ => ⟨S72x512x3584, .f32⟩
  | .hbm, ⟨24, _⟩ => ⟨S_, .f32⟩
  | .hbm, ⟨25, _⟩ => ⟨S72x512x3584, .f32⟩
  | .hbm, ⟨26, _⟩ => ⟨S72x512x3584, .f32⟩
  | .hbm, ⟨27, _⟩ => ⟨S72x512x3584, .f32⟩
  | .hbm, ⟨28, _⟩ => ⟨S72x512x3584, .f32⟩
  | .hbm, ⟨29, _⟩ => ⟨S_, .i32⟩
  | .hbm, ⟨30, _⟩ => ⟨S72, .i32⟩
  | .hbm, ⟨31, _⟩ => ⟨S72, .i1⟩
  | .hbm, ⟨32, _⟩ => ⟨S_, .i32⟩
  | .hbm, ⟨33, _⟩ => ⟨S72, .i32⟩
  | .hbm, ⟨34, _⟩ => ⟨S72, .i32⟩
  | .hbm, ⟨35, _⟩ => ⟨S72, .i32⟩
  | .hbm, ⟨36, _⟩ => ⟨S72x1, .i32⟩
  | .hbm, ⟨37, _⟩ => ⟨S72x3584x1024, .f32⟩
  | .hbm, ⟨38, _⟩ => ⟨S72x512x1024, .f32⟩
  | .hbm, ⟨39, _⟩ => ⟨S36864x1024, .f32⟩
  | _, _ => ⟨S36864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S2x1x1024 : Shape := ⟨3, ![2, 1, 1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1x1x1024 : Shape := ⟨3, ![1, 1, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 11
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x5632, .f32⟩
  | .hbm, ⟨6, _⟩ => ⟨S2816x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S16384x1024 : Shape := ⟨2, ![16384, 1024]⟩
abbrev S1024 : Shape := ⟨1, ![1024]⟩
abbrev S2x1x1024 : Shape := ⟨3, ![2, 1, 1024]⟩
abbrev S1024x5632 : Shape := ⟨2, ![1024, 5632]⟩
abbrev S2816x1024 : Shape := ⟨2, ![2816, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x5632, .f32⟩
  | .hbm, ⟨6, _⟩ => ⟨S2816x1024, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x5632, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S2x1x1024 : Shape := ⟨3, ![2, 1, 1024]⟩
abbrev S1024x4112 : Shape := ⟨2, ![1024, 4112]⟩
abbrev S_ : Shape := ⟨0, ![]⟩
abbrev S1024x4224 : Shape := ⟨2, ![1024, 4224]⟩
abbrev S1x1024 : Shape := ⟨2, ![1, 1024]⟩
abbrev S16384x4224 : Shape := ⟨2, ![16384, 4224]⟩
abbrev S256x1024 : Shape := ⟨2, ![256, 1024]⟩
abbrev S1x1x1024 : Shape := ⟨3, ![1, 1, 1024]⟩
abbrev S256x4224 : Shape := ⟨2, ![256, 4224]⟩
abbrev S256 : Shape := ⟨1, ![256]⟩
abbrev S256x1 : Shape := ⟨2, ![256, 1]⟩
abbrev S16384x4112 : Shape := ⟨2, ![16384, 4112]⟩
abbrev S16384x3072 : Shape := ⟨2, ![16384, 3072]⟩
abbrev S2x8192x3072 : Shape := ⟨3, ![2, 8192, 3072]⟩
abbrev S2x3x3072 : Shape := ⟨3, ![2, 3, 3072]⟩

abbrev nBuf : Space → Nat
  | .hbm => 15
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x4112, .f32⟩
  | .hbm, ⟨5, _⟩ => ⟨S_, .i32⟩
  | .hbm, ⟨6, _⟩ => ⟨S_, .f32⟩
  | .hbm, ⟨7, _⟩ => ⟨S1024x4224, .f32⟩
  | .hbm, ⟨8, _⟩ => ⟨S1024x4224, .bf16⟩
  | .hbm, ⟨9, _⟩ => ⟨S1x1024, .f32⟩
  | .hbm, ⟨10, _⟩ => ⟨S16384x4224, .f32⟩
  | .hbm, ⟨11, _⟩ => ⟨S16384x4112, .f32⟩
  | .hbm, ⟨12, _⟩ => ⟨S16384x3072, .f32⟩
  | .hbm, ⟨13, _⟩ => ⟨S2x8192x3072, .f32⟩
  | .hbm, ⟨14, _⟩ => ⟨S2x3x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4224, .bf16⟩
  | .local _ .vmem, ⟨8, _⟩ => ⟨S256x4224, .f32⟩
  | .local _ .vmem, ⟨9, _⟩ => ⟨S256x4224, .f32⟩
  | .local _ .vmem, ⟨10, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x4224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x1024 : Shape := ⟨2, ![16384, 1024]⟩
abbrev S1024 : Shape := ⟨1, ![1024]⟩
abbrev S2x1x1024 : Shape := ⟨3, ![2, 1, 1024]⟩
abbrev S1024x4112 : Shape := ⟨2, ![1024, 4112]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4112 : Shape := ⟨3, ![2, 8192, 4112]⟩
abbrev S2x3x3072 : Shape := ⟨3, ![2, 3, 3072]⟩
abbrev S2x8192x3072 : Shape := ⟨3, ![2, 8192, 3072]⟩
abbrev S2x8195x3072 : Shape := ⟨3, ![2, 8195, 3072]⟩
abbrev S16384x4112 : Shape := ⟨2, ![16384, 4112]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x4112, .f32⟩
  | .hbm, ⟨5, _⟩ => ⟨S2x8192x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x4112, .f32⟩
  | .hbm, ⟨30, _⟩ => ⟨S_, .f32⟩
  | .hbm, ⟨31, _⟩ => ⟨S2x3x3072, .f32⟩
  | .hbm, ⟨32, _⟩ => ⟨S2x8192x3072, .f32⟩
  | .hbm, ⟨33, _⟩ => ⟨S2x8195x3072, .f32⟩
  | .hbm, ⟨34, _⟩ => ⟨S16384x4112, .f32⟩
  | .hbm, ⟨35, _⟩ => ⟨S2x3x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S2x1x1024, .f32⟩
  | .hbm, ⟨4, _⟩ => ⟨S1024x1024, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x1024 : Shape := ⟨2, ![16384, 1024]⟩
abbrev S1024x1024 : Shape := ⟨2, ![1024, 1024]⟩
abbrev S2x1x1024 : Shape := ⟨3, ![2, 1, 1024]⟩
abbrev S2x8192x1024 : Shape := ⟨3, ![2, 8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S2x1x1024, .f32⟩
  | .hbm, ⟨4, _⟩ => ⟨S2x8192x1024, .f32⟩
  | .hbm, ⟨5, _⟩ => ⟨S16384x1024, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S2x1x1024 : Shape := ⟨3, ![2, 1, 1024]⟩
abbrev S1024x1840 : Shape := ⟨2, ![1024, 1840]⟩
abbrev S_ : Shape := ⟨0, ![]⟩
abbrev S1024x1920 : Shape := ⟨2, ![1024, 1920]⟩
abbrev S1x1024 : Shape := ⟨2, ![1, 1024]⟩
abbrev S16384x1920 : Shape := ⟨2, ![16384, 1920]⟩
abbrev S512x1024 : Shape := ⟨2, ![512, 1024]⟩
abbrev S1x1x1024 : Shape := ⟨3, ![1, 1, 1024]⟩
abbrev S512x1920 : Shape := ⟨2, ![512, 1920]⟩
abbrev S512 : Shape := ⟨1, ![512]⟩
abbrev S512x1 : Shape := ⟨2, ![512, 1]⟩
abbrev S16384x768 : Shape := ⟨2, ![16384, 768]⟩
abbrev S2x8192x6x2x64 : Shape := ⟨5, ![2, 8192, 6, 2, 64]⟩
abbrev S16384x1840 : Shape := ⟨2, ![16384, 1840]⟩
abbrev S2x8192x4x2x64 : Shape := ⟨5, ![2, 8192, 4, 2, 64]⟩
abbrev S2x512x2x2x64 : Shape := ⟨5, ![2, 512, 2, 2, 64]⟩

abbrev nBuf : Space → Nat
  | .hbm => 16
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x1840, .f32⟩
  | .hbm, ⟨5, _⟩ => ⟨S_, .i32⟩
  | .hbm, ⟨6, _⟩ => ⟨S_, .f32⟩
  | .hbm, ⟨7, _⟩ => ⟨S1024x1920, .f32⟩
  | .hbm, ⟨8, _⟩ => ⟨S1024x1920, .bf16⟩
  | .hbm, ⟨9, _⟩ => ⟨S1x1024, .f32⟩
  | .hbm, ⟨10, _⟩ => ⟨S16384x1920, .f32⟩
  | .hbm, ⟨11, _⟩ => ⟨S16384x768, .f32⟩
  | .hbm, ⟨12, _⟩ => ⟨S2x8192x6x2x64, .f32⟩
  | .hbm, ⟨13, _⟩ => ⟨S16384x1840, .f32⟩
  | .hbm, ⟨14, _⟩ => ⟨S2x8192x4x2x64, .f32⟩
  | .hbm, ⟨15, _⟩ => ⟨S2x512x2x2x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1920, .bf16⟩
  | .local _ .vmem, ⟨8, _⟩ => ⟨S512x1920, .f32⟩
  | .local _ .vmem, ⟨9, _⟩ => ⟨S512x1920, .f32⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x1024 : Shape := ⟨2, ![16384, 1024]⟩
abbrev S1024 : Shape := ⟨1, ![1024]⟩
abbrev S2x1x1024 : Shape := ⟨3, ![2, 1, 1024]⟩
abbrev S1024x1840 : Shape := ⟨2, ![1024, 1840]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x1840 : Shape := ⟨3, ![2, 8192, 1840]⟩
abbrev S2x8192x768 : Shape := ⟨3, ![2, 8192, 768]⟩
abbrev S2x8192x6x2x64 : Shape := ⟨5, ![2, 8192, 6, 2, 64]⟩
abbrev S16384x1840 : Shape := ⟨2, ![16384, 1840]⟩
abbrev S2x8192x4x2x64 : Shape := ⟨5, ![2, 8192, 4, 2, 64]⟩
abbrev S2x512x2x2x64 : Shape := ⟨5, ![2, 512, 2, 2, 64]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x1840, .f32⟩
  | .hbm, ⟨5, _⟩ => ⟨S2x8192x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1840, .f32⟩
  | .hbm, ⟨30, _⟩ => ⟨S2x8192x768, .f32⟩
  | .hbm, ⟨31, _⟩ => ⟨S2x8192x6x2x64, .f32⟩
  | .hbm, ⟨32, _⟩ => ⟨S16384x1840, .f32⟩
  | .hbm, ⟨33, _⟩ => ⟨S2x8192x4x2x64, .f32⟩
  | .hbm, ⟨34, _⟩ => ⟨S2x512x2x2x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S2x1x1024 : Shape := ⟨3, ![2, 1, 1024]⟩
abbrev S1024x1024 : Shape := ⟨2, ![1024, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x1024 : Shape := ⟨2, ![16384, 1024]⟩
abbrev S1024 : Shape := ⟨1, ![1024]⟩
abbrev S2x1x1024 : Shape := ⟨3, ![2, 1, 1024]⟩
abbrev S1024x1024 : Shape := ⟨2, ![1024, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x1024, .f32⟩
  | .hbm, ⟨5, _⟩ => ⟨S2x8192x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel7.lean ====
abbrev S2x8192x2x2x64 : Shape := ⟨5, ![2, 8192, 2, 2, 64]⟩
abbrev S2x32x64 : Shape := ⟨3, ![2, 32, 64]⟩
abbrev S2x2048x128 : Shape := ⟨3, ![2, 2048, 128]⟩
abbrev S2x128x64 : Shape := ⟨3, ![2, 128, 64]⟩
abbrev S2x512x16x2x2x64 : Shape := ⟨6, ![2, 512, 16, 2, 2, 64]⟩
abbrev S2x2x2x512x16x64 : Shape := ⟨6, ![2, 2, 2, 512, 16, 64]⟩
abbrev S2x4x512x1024 : Shape := ⟨4, ![2, 4, 512, 1024]⟩
abbrev S2x2x1024 : Shape := ⟨3, ![2, 2, 1024]⟩
abbrev S2x4x512x64 : Shape := ⟨4, ![2, 4, 512, 64]⟩
abbrev S1x1x512x1024 : Shape := ⟨4, ![1, 1, 512, 1024]⟩
abbrev S1x2x1024 : Shape := ⟨3, ![1, 2, 1024]⟩
abbrev S1x2048x128 : Shape := ⟨3, ![1, 2048, 128]⟩
abbrev S1x128x64 : Shape := ⟨3, ![1, 128, 64]⟩
abbrev S1x1x512x64 : Shape := ⟨4, ![1, 1, 512, 64]⟩
abbrev S512x1024 : Shape := ⟨2, ![512, 1024]⟩
abbrev S1x1x1024 : Shape := ⟨3, ![1, 1, 1024]⟩
abbrev S1x1024 : Shape := ⟨2, ![1, 1024]⟩
abbrev S1x1024x128 : Shape := ⟨3, ![1, 1024, 128]⟩
abbrev S1024x128 : Shape := ⟨2, ![1024, 128]⟩
abbrev S512x128 : Shape := ⟨2, ![512, 128]⟩
abbrev S128x64 : Shape := ⟨2, ![128, 64]⟩
abbrev S512x64 : Shape := ⟨2, ![512, 64]⟩
abbrev S2x2x2x512x64 : Shape := ⟨5, ![2, 2, 2, 512, 64]⟩
abbrev S2x2x2x511x64 : Shape := ⟨5, ![2, 2, 2, 511, 64]⟩

abbrev nBuf : Space → Nat
  | .hbm => 15
  | .vmem => 10
  | .smem => 0
  | _ => 0

abbrev bufTy : (tb : Table) → Fin (tcTables nBuf tb) → BufTy
  | .hbm, ⟨0, _⟩ => ⟨S2x8192x2x2x64, .f32⟩
  | .hbm, ⟨1, _⟩ => ⟨S2x32x64, .f32⟩
  | .hbm, ⟨2, _⟩ => ⟨S2x2048x128, .f32⟩
  | .hbm, ⟨3, _⟩ => ⟨S2x128x64, .f32⟩
  | .hbm, ⟨4, _⟩ => ⟨S2x8192x2x2x64, .bf16⟩
  | .hbm, ⟨5, _⟩ => ⟨S2x512x16x2x2x64, .bf16⟩
  | .hbm, ⟨6, _⟩ => ⟨S2x2x2x512x16x64, .bf16⟩
  | .hbm, ⟨7, _⟩ => ⟨S2x4x512x1024, .bf16⟩
  | .hbm, ⟨8, _⟩ => ⟨S2x2x1024, .f32⟩
  | .hbm, ⟨9, _⟩ => ⟨S2x2048x128, .bf16⟩
  | .hbm, ⟨10, _⟩ => ⟨S2x128x64, .bf16⟩
  | .hbm, ⟨11, _⟩ => ⟨S2x4x512x64, .bf16⟩
  | .hbm, ⟨12, _⟩ => ⟨S2x2x2x512x64, .bf16⟩
  | .hbm, ⟨13, _⟩ => ⟨S2x2x2x511x64, .bf16⟩
  | .hbm, ⟨14, _⟩ => ⟨S2x2x2x511x64, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x2x1024, .f32⟩
  | .local _ .vmem, ⟨3, _⟩ => ⟨S1x2x1024, .f32⟩
  | .local _ .vmem, ⟨4, _⟩ => ⟨S1x2048x128, .bf16⟩
  | .local _ .vmem, ⟨5, _⟩ => ⟨S1x2048x128, .bf16⟩
  | .local _ .vmem, ⟨6, _⟩ => ⟨S1x128x64, .bf16⟩
  | .local _ .vmem, ⟨7, _⟩ => ⟨S1x128x64, .bf16⟩
  | .local _ .vmem, ⟨8, _⟩ => ⟨S1x1x512x64, .bf16⟩
  | .local _ .vmem, ⟨9, _⟩ => ⟨S1x1x512x64, .bf16⟩
  | _, _ => ⟨S2x8192x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S2x8192x2x2x64 : Shape := ⟨5, ![2, 8192, 2, 2, 64]⟩
abbrev S2x32x64 : Shape := ⟨3, ![2, 32, 64]⟩
abbrev S2x2048x128 : Shape := ⟨3, ![2, 2048, 128]⟩
abbrev S2x128x64 : Shape := ⟨3, ![2, 128, 64]⟩
abbrev S2x512x16x2x2x64 : Shape := ⟨6, ![2, 512, 16, 2, 2, 64]⟩
abbrev S2x511x16x2x2x64 : Shape := ⟨6, ![2, 511, 16, 2, 2, 64]⟩
abbrev S2x511x32x2x2x64 : Shape := ⟨6, ![2, 511, 32, 2, 2, 64]⟩
abbrev S32x2x64 : Shape := ⟨3, ![32, 2, 64]⟩
abbrev S32x2x1x64 : Shape := ⟨4, ![32, 2, 1, 64]⟩
abbrev S1x1x32x2x1x64 : Shape := ⟨6, ![1, 1, 32, 2, 1, 64]⟩
abbrev S2x511x2x2x32x64 : Shape := ⟨6, ![2, 511, 2, 2, 32, 64]⟩
abbrev S2x511x2x2x2048 : Shape := ⟨5, ![2, 511, 2, 2, 2048]⟩
abbrev S2x128x2x511x2 : Shape := ⟨5, ![2, 128, 2, 511, 2]⟩
abbrev S2x511x2x2x128 : Shape := ⟨5, ![2, 511, 2, 2, 128]⟩
abbrev S_ : Shape := ⟨0, ![]⟩
abbrev S2x64x2x511x2 : Shape := ⟨5, ![2, 64, 2, 511, 2]⟩
abbrev S2x2x2x511x64 : Shape := ⟨5, ![2, 2, 2, 511, 64]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x2x2x64, .f32⟩
  | .hbm, ⟨1, _⟩ => ⟨S2x32x64, .f32⟩
  | .hbm, ⟨2, _⟩ => ⟨S2x2048x128, .f32⟩
  | .hbm, ⟨3, _⟩ => ⟨S2x128x64, .f32⟩
  | .hbm, ⟨4, _⟩ => ⟨S2x512x16x2x2x64, .f32⟩
  | .hbm, ⟨5, _⟩ => ⟨S2x511x16x2x2x64, .f32⟩
  | .hbm, ⟨6, _⟩ => ⟨S2x511x16x2x2x64, .f32⟩
  | .hbm, ⟨7, _⟩ => ⟨S2x511x32x2x2x64, .f32⟩
  | .hbm, ⟨8, _⟩ => ⟨S32x2x64, .f32⟩
  | .hbm, ⟨9, _⟩ => ⟨S32x2x1x64, .f32⟩
  | .hbm, ⟨10, _⟩ => ⟨S1x1x32x2x1x64, .f32⟩
  | .hbm, ⟨11, _⟩ => ⟨S2x511x32x2x2x64, .f32⟩
  | .hbm, ⟨12, _⟩ => ⟨S2x511x32x2x2x64, .f32⟩
  | .hbm, ⟨13, _⟩ => ⟨S2x511x2x2x32x64, .f32⟩
  | .hbm, ⟨14, _⟩ => ⟨S2x511x2x2x2048, .f32⟩
  | .hbm, ⟨15, _⟩ => ⟨S2x128x2x511x2, .f32⟩
  | .hbm, ⟨16, _⟩ => ⟨S2x511x2x2x128, .f32⟩
  | .hbm, ⟨17, _⟩ => ⟨S2x511x2x2x128, .f32⟩
  | .hbm, ⟨18, _⟩ => ⟨S2x511x2x2x128, .f32⟩
  | .hbm, ⟨19, _⟩ => ⟨S_, .f32⟩
  | .hbm, ⟨20, _⟩ => ⟨S2x511x2x2x128, .f32⟩
  | .hbm, ⟨21, _⟩ => ⟨S2x511x2x2x128, .f32⟩
  | .hbm, ⟨22, _⟩ => ⟨S2x511x2x2x128, .f32⟩
  | .hbm, ⟨23, _⟩ => ⟨S_, .f32⟩
  | .hbm, ⟨24, _⟩ => ⟨S2x511x2x2x128, .f32⟩
  | .hbm, ⟨25, _⟩ => ⟨S2x511x2x2x128, .f32⟩
  | .hbm, ⟨26, _⟩ => ⟨S2x511x2x2x128, .f32⟩
  | .hbm, ⟨27, _⟩ => ⟨S_, .f32⟩
  | .hbm, ⟨28, _⟩ => ⟨S2x511x2x2x128, .f32⟩
  | .hbm, ⟨29, _⟩ => ⟨S2x511x2x2x128, .f32⟩
  | .hbm, ⟨30, _⟩ => ⟨S_, .f32⟩
  | .hbm, ⟨31, _⟩ => ⟨S2x511x2x2x128, .f32⟩
  | .hbm, ⟨32, _⟩ => ⟨S2x511x2x2x128, .f32⟩
  | .hbm, ⟨33, _⟩ => ⟨S2x511x2x2x128, .f32⟩
  | .hbm, ⟨34, _⟩ => ⟨S2x64x2x511x2, .f32⟩
  | .hbm, ⟨35, _⟩ => ⟨S2x2x2x511x64, .f32⟩
  | _, _ => ⟨S2x8192x2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel8.lean ====
abbrev S128x1024 : Shape := ⟨2, ![128, 1024]⟩
abbrev S1024 : Shape := ⟨1, ![1024]⟩
abbrev S32x1024 : Shape := ⟨2, ![32, 1024]⟩
abbrev S1024x1840 : Shape := ⟨2, ![1024, 1840]⟩
abbrev S32x512x2x2x64 : Shape := ⟨5, ![32, 512, 2, 2, 64]⟩
abbrev S32x4x1024 : Shape := ⟨3, ![32, 4, 1024]⟩
abbrev S1x128x1024 : Shape := ⟨3, ![1, 128, 1024]⟩
abbrev S_ : Shape := ⟨0, ![]⟩
abbrev S1024x1920 : Shape := ⟨2, ![1024, 1920]⟩
abbrev S1x1024 : Shape := ⟨2, ![1, 1024]⟩
abbrev S128x1920 : Shape := ⟨2, ![128, 1920]⟩
abbrev S1024x640 : Shape := ⟨2, ![1024, 640]⟩
abbrev S128x640 : Shape := ⟨2, ![128, 640]⟩
abbrev S128 : Shape := ⟨1, ![128]⟩
abbrev S128x1 : Shape := ⟨2, ![128, 1]⟩
abbrev S128x768 : Shape := ⟨2, ![128, 768]⟩
abbrev S32x4x6x2x64 : Shape := ⟨5, ![32, 4, 6, 2, 64]⟩
abbrev S32x4x2x2x64 : Shape := ⟨5, ![32, 4, 2, 2, 64]⟩
abbrev S32x516x2x2x64 : Shape := ⟨5, ![32, 516, 2, 2, 64]⟩
abbrev S128x1840 : Shape := ⟨2, ![128, 1840]⟩
abbrev S32x4x4x2x64 : Shape := ⟨5, ![32, 4, 4, 2, 64]⟩

abbrev nBuf : Space → Nat
  | .hbm => 24
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x1840, .f32⟩
  | .hbm, ⟨5, _⟩ => ⟨S32x512x2x2x64, .f32⟩
  | .hbm, ⟨6, _⟩ => ⟨S32x4x1024, .f32⟩
  | .hbm, ⟨7, _⟩ => ⟨S128x1024, .f32⟩
  | .hbm, ⟨8, _⟩ => ⟨S1x128x1024, .f32⟩
  | .hbm, ⟨9, _⟩ => ⟨S32x4x1024, .f32⟩
  | .hbm, ⟨10, _⟩ => ⟨S128x1024, .f32⟩
  | .hbm, ⟨11, _⟩ => ⟨S1x128x1024, .f32⟩
  | .hbm, ⟨12, _⟩ => ⟨S_, .i32⟩
  | .hbm, ⟨13, _⟩ => ⟨S_, .f32⟩
  | .hbm, ⟨14, _⟩ => ⟨S1024x1920, .f32⟩
  | .hbm, ⟨15, _⟩ => ⟨S1x1024, .f32⟩
  | .hbm, ⟨16, _⟩ => ⟨S128x1920, .f32⟩
  | .hbm, ⟨17, _⟩ => ⟨S128x768, .f32⟩
  | .hbm, ⟨18, _⟩ => ⟨S32x4x6x2x64, .f32⟩
  | .hbm, ⟨19, _⟩ => ⟨S32x4x2x2x64, .f32⟩
  | .hbm, ⟨20, _⟩ => ⟨S32x516x2x2x64, .f32⟩
  | .hbm, ⟨21, _⟩ => ⟨S128x1840, .f32⟩
  | .hbm, ⟨22, _⟩ => ⟨S32x4x4x2x64, .f32⟩
  | .hbm, ⟨23, _⟩ => ⟨S32x512x2x2x64, .f32⟩
  | .local _ .vmem, ⟨0, _⟩ => ⟨S128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x640, .f32⟩
  | .local _ .vmem, ⟨5, _⟩ => ⟨S1024x640, .f32⟩
  | .local _ .vmem, ⟨6, _⟩ => ⟨S128x640, .f32⟩
  | .local _ .vmem, ⟨7, _⟩ => ⟨S128x640, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S128x1024 : Shape := ⟨2, ![128, 1024]⟩
abbrev S1024 : Shape := ⟨1, ![1024]⟩
abbrev S32x1024 : Shape := ⟨2, ![32, 1024]⟩
abbrev S1024x1840 : Shape := ⟨2, ![1024, 1840]⟩
abbrev S32x512x2x2x64 : Shape := ⟨5, ![32, 512, 2, 2, 64]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x1x1024 : Shape := ⟨3, ![32, 1, 1024]⟩
abbrev S32x4x1840 : Shape := ⟨3, ![32, 4, 1840]⟩
abbrev S32x4x768 : Shape := ⟨3, ![32, 4, 768]⟩
abbrev S32x4x6x2x64 : Shape := ⟨5, ![32, 4, 6, 2, 64]⟩
abbrev S128x1840 : Shape := ⟨2, ![128, 1840]⟩
abbrev S32x4x4x2x64 : Shape := ⟨5, ![32, 4, 4, 2, 64]⟩
abbrev S32x4x2x2x64 : Shape := ⟨5, ![32, 4, 2, 2, 64]⟩
abbrev S32x516x2x2x64 : Shape := ⟨5, ![32, 516, 2, 2, 64]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x1840, .f32⟩
  | .hbm, ⟨5, _⟩ => ⟨S32x512x2x2x64, .f32⟩
  | .hbm, ⟨6, _⟩ => ⟨S32x4x1024, .f32⟩
  | .hbm, ⟨7, _⟩ => ⟨S32x4x1024, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x1024, .f32⟩
  | .hbm, ⟨19, _⟩ => ⟨S32x4x1024, .f32⟩
  | .hbm, ⟨20, _⟩ => ⟨S1x1x1024, .f32⟩
  | .hbm, ⟨21, _⟩ => ⟨S32x4x1024, .f32⟩
  | .hbm, ⟨22, _⟩ => ⟨S32x4x1024, .f32⟩
  | .hbm, ⟨23, _⟩ => ⟨S32x1x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S32x4x1024, .f32⟩
  | .hbm, ⟨28, _⟩ => ⟨S32x4x1024, .f32⟩
  | .hbm, ⟨29, _⟩ => ⟨S32x1x1024, .f32⟩
  | .hbm, ⟨30, _⟩ => ⟨S32x4x1024, .f32⟩
  | .hbm, ⟨31, _⟩ => ⟨S32x4x1024, .f32⟩
  | .hbm, ⟨32, _⟩ => ⟨S32x4x1840, .f32⟩
  | .hbm, ⟨33, _⟩ => ⟨S32x4x768, .f32⟩
  | .hbm, ⟨34, _⟩ => ⟨S32x4x6x2x64, .f32⟩
  | .hbm, ⟨35, _⟩ => ⟨S128x1840, .f32⟩
  | .hbm, ⟨36, _⟩ => ⟨S32x4x4x2x64, .f32⟩
  | .hbm, ⟨37, _⟩ => ⟨S32x4x2x2x64, .f32⟩
  | .hbm, ⟨38, _⟩ => ⟨S32x516x2x2x64, .f32⟩
  | .hbm, ⟨39, _⟩ => ⟨S32x512x2x2x64, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel9.lean ====
abbrev S128x1024 : Shape := ⟨2, ![128, 1024]⟩
abbrev S1024 : Shape := ⟨1, ![1024]⟩
abbrev S32x1024 : Shape := ⟨2, ![32, 1024]⟩
abbrev S1024x4112 : Shape := ⟨2, ![1024, 4112]⟩
abbrev S32x3x3072 : Shape := ⟨3, ![32, 3, 3072]⟩
abbrev S32x4x1024 : Shape := ⟨3, ![32, 4, 1024]⟩
abbrev S1x128x1024 : Shape := ⟨3, ![1, 128, 1024]⟩
abbrev S_ : Shape := ⟨0, ![]⟩
abbrev S1024x4224 : Shape := ⟨2, ![1024, 4224]⟩
abbrev S1x1024 : Shape := ⟨2, ![1, 1024]⟩
abbrev S128x4224 : Shape := ⟨2, ![128, 4224]⟩
abbrev S1024x1408 : Shape := ⟨2, ![1024, 1408]⟩
abbrev S128x1408 : Shape := ⟨2, ![128, 1408]⟩
abbrev S128 : Shape := ⟨1, ![128]⟩
abbrev S128x1 : Shape := ⟨2, ![128, 1]⟩
abbrev S32x4x4224 : Shape := ⟨3, ![32, 4, 4224]⟩
abbrev S32x4x3072 : Shape := ⟨3, ![32, 4, 3072]⟩
abbrev S32x7x3072 : Shape := ⟨3, ![32, 7, 3072]⟩
abbrev S128x4112 : Shape := ⟨2, ![128, 4112]⟩

abbrev nBuf : Space → Nat
  | .hbm => 22
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x4112, .f32⟩
  | .hbm, ⟨5, _⟩ => ⟨S32x3x3072, .f32⟩
  | .hbm, ⟨6, _⟩ => ⟨S32x4x1024, .f32⟩
  | .hbm, ⟨7, _⟩ => ⟨S128x1024, .f32⟩
  | .hbm, ⟨8, _⟩ => ⟨S1x128x1024, .f32⟩
  | .hbm, ⟨9, _⟩ => ⟨S32x4x1024, .f32⟩
  | .hbm, ⟨10, _⟩ => ⟨S128x1024, .f32⟩
  | .hbm, ⟨11, _⟩ => ⟨S1x128x1024, .f32⟩
  | .hbm, ⟨12, _⟩ => ⟨S_, .i32⟩
  | .hbm, ⟨13, _⟩ => ⟨S_, .f32⟩
  | .hbm, ⟨14, _⟩ => ⟨S1024x4224, .f32⟩
  | .hbm, ⟨15, _⟩ => ⟨S1x1024, .f32⟩
  | .hbm, ⟨16, _⟩ => ⟨S128x4224, .f32⟩
  | .hbm, ⟨17, _⟩ => ⟨S32x4x4224, .f32⟩
  | .hbm, ⟨18, _⟩ => ⟨S32x4x3072, .f32⟩
  | .hbm, ⟨19, _⟩ => ⟨S32x7x3072, .f32⟩
  | .hbm, ⟨20, _⟩ => ⟨S128x4112, .f32⟩
  | .hbm, ⟨21, _⟩ => ⟨S32x3x3072, .f32⟩
  | .local _ .vmem, ⟨0, _⟩ => ⟨S128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x1408, .f32⟩
  | .local _ .vmem, ⟨5, _⟩ => ⟨S1024x1408, .f32⟩
  | .local _ .vmem, ⟨6, _⟩ => ⟨S128x1408, .f32⟩
  | .local _ .vmem, ⟨7, _⟩ => ⟨S128x1408, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S128x1024 : Shape := ⟨2, ![128, 1024]⟩
abbrev S1024 : Shape := ⟨1, ![1024]⟩
abbrev S32x1024 : Shape := ⟨2, ![32, 1024]⟩
abbrev S1024x4112 : Shape := ⟨2, ![1024, 4112]⟩
abbrev S32x3x3072 : Shape := ⟨3, ![32, 3, 3072]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x1x1024 : Shape := ⟨3, ![32, 1, 1024]⟩
abbrev S32x4x4112 : Shape := ⟨3, ![32, 4, 4112]⟩
abbrev S128x4112 : Shape := ⟨2, ![128, 4112]⟩
abbrev S32x4x3072 : Shape := ⟨3, ![32, 4, 3072]⟩
abbrev S32x7x3072 : Shape := ⟨3, ![32, 7, 3072]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x4112, .f32⟩
  | .hbm, ⟨5, _⟩ => ⟨S32x3x3072, .f32⟩
  | .hbm, ⟨6, _⟩ => ⟨S32x4x1024, .f32⟩
  | .hbm, ⟨7, _⟩ => ⟨S32x4x1024, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x1024, .f32⟩
  | .hbm, ⟨19, _⟩ => ⟨S32x4x1024, .f32⟩
  | .hbm, ⟨20, _⟩ => ⟨S1x1x1024, .f32⟩
  | .hbm, ⟨21, _⟩ => ⟨S32x4x1024, .f32⟩
  | .hbm, ⟨22, _⟩ => ⟨S32x4x1024, .f32⟩
  | .hbm, ⟨23, _⟩ => ⟨S32x1x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S32x4x1024, .f32⟩
  | .hbm, ⟨28, _⟩ => ⟨S32x4x1024, .f32⟩
  | .hbm, ⟨29, _⟩ => ⟨S32x1x1024, .f32⟩
  | .hbm, ⟨30, _⟩ => ⟨S32x4x1024, .f32⟩
  | .hbm, ⟨31, _⟩ => ⟨S32x4x1024, .f32⟩
  | .hbm, ⟨32, _⟩ => ⟨S32x4x4112, .f32⟩
  | .hbm, ⟨33, _⟩ => ⟨S128x4112, .f32⟩
  | .hbm, ⟨34, _⟩ => ⟨S32x4x3072, .f32⟩
  | .hbm, ⟨35, _⟩ => ⟨S32x7x3072, .f32⟩
  | .hbm, ⟨36, _⟩ => ⟨S32x3x3072, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.MoeRuns.lean ====
/- The expert kernel's body, run on symbolic staging buffers, one theorem for each way through its conditions. -/
module

public import proofs.«01_k».proof.Proof.Gen.Kernel
public import proofs.«01_k».proof.Proof.Gen.Kernel.Skeleton
public import proofs.«01_k».proof.Proof.Gen.Kernel.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Exec
public import Idealize.ShloMosaic.Lib.Tactic
public import Idealize.ShloMosaic.Adequacy
public import Idealize.ShloMosaic.Init
public import Idealize.ShloMosaic.PureOps.BitExact
public import Idealize.ShloMosaic.Lib.Ring
public import Idealize.ShloMosaic.Lib.Affine

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The expert table as the body is handed it. -/
abbrev tabE : Memref sig .tc .smem S72 .i32 := Memref.whole main_v13
/-- The number of used blocks as the body is handed it. -/
abbrev tabN : Memref sig .tc .smem S1 .i32 := Memref.whole main_arg2
/-- The accumulator. -/
abbrev acc : Memref sig .tc .vmem S512x1024 .f32 := Memref.whole cc0_scratch0

/-- What the body is handed and hands back beside the output and the accumulator: the four blocks and the two tables. -/
def given (c : Dev nD) (arg4 : Memref sig .tc .vmem S512x1024 .bf16) (arg5 arg6 : Memref sig .tc .vmem S1x1024x512 .bf16)
    (arg7 : Memref sig .tc .vmem S1x512x1024 .bf16) (T0 : S72.Idx → Elt F .i32) (T1 : S1.Idx → Elt F .i32)
    (x0 : S512x1024.Idx → Elt F .bf16) (x1 x2 : S1x1024x512.Idx → Elt F .bf16) (x3 : S1x512x1024.Idx → Elt F .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (tabE.view.loc (c : Thread nD τ) ↦{fullShare.right} T0) ∗ (tabN.view.loc (c : Thread nD τ) ↦{fullShare.right} T1))

/-- Reading the accumulator whole gives its contents. -/
theorem acc_read (g : S512x1024.Idx → Elt F .f32) : acc.view.read (Elt F) g = g := rfl

/-- The accumulator after a store of all of it is what was stored. -/
theorem acc_writes (f : S512x1024.Idx → Elt F .f32) (w : S512x1024.Idx → Elt F .f32) (L : List (View.Piece (Elt F) S512x1024 .f32)) :
    acc.view.writes (Elt F) f (⟨Rect.unit ![0, 0] S512x1024.size inb_S512x1024_S512x1024_0_0, w⟩ :: L) = w :=
  (acc_read _).symm.trans (View.read_writes_full (Val := Elt F) acc.view f inb_S512x1024_S512x1024_0_0 w L)

/-- A load of all of the accumulator reads its contents. -/
theorem acc_load (f : S512x1024.Idx → Elt F .f32) :
    View.readAt (Elt F) acc.view (Rect.unit ![0, 0] S512x1024.size inb_S512x1024_S512x1024_0_0).toLoadRect f = f :=
  (View.readAt_full (Val := Elt F) acc.view f inb_S512x1024_S512x1024_0_0).trans (acc_read f)

variable (c : Dev nD) (i : grid0.Coords) (arg4 : Memref sig .tc .vmem S512x1024 .bf16) (harg4 : arg4.IsWhole)
  (arg5 : Memref sig .tc .vmem S1x1024x512 .bf16) (harg5 : arg5.IsWhole) (arg6 : Memref sig .tc .vmem S1x1024x512 .bf16) (harg6 : arg6.IsWhole)
  (arg7 : Memref sig .tc .vmem S1x512x1024 .bf16) (harg7 : arg7.IsWhole) (arg8 : Memref sig .tc .vmem S512x1024 .f32) (harg8 : arg8.IsWhole)
  (T0 : S72.Idx → Elt F .i32) (T1 : S1.Idx → Elt F .i32)
  (x0 : S512x1024.Idx → Elt F .bf16) (x1 x2 : S1x1024x512.Idx → Elt F .bf16) (x3 : S1x512x1024.Idx → Elt F .bf16)
  (y ya : S512x1024.Idx → Elt F .f32)

set_option backward.proofsInPublic true in
set_option maxHeartbeats 8000000 in
/-- The first point of a used block: the accumulator is zeroed and takes the first partial product; the output is left alone. -/
theorem run_first (K : PUnit → sProp 𝕄) (h1 : k0_cond1 i (View.readAt (Elt F) tabN.view (Rect.unit (s := S1) ![0] S1.size inb_S1_S1_0).toLoadRect T1 (Shape.Idx.first (numel1_S1.symm ▸ Nat.one_pos))) = 1#1)
    (h2 : (Scalar.cmpi .ne (Scalar.extui (Scalar.cmpi .eq (BitVec.ofNat 32 (i 1).val) 0#32)) 0#32) = 1#1) (h3 : ¬(k0_cond3 i = 1#1)) :
    iprop(given c arg4 arg5 arg6 arg7 T0 T1 x0 x1 x2 x3 ∗ owns (c : Thread nD τ) arg8 fullShare y ∗ (acc.view.loc (c : Thread nD τ) ↦{fullShare} ya)
        ∗ (iprop(given c arg4 arg5 arg6 arg7 T0 T1 x0 x1 x2 x3 ∗ owns (c : Thread nD τ) arg8 fullShare y
            ∗ (∃ f : Buf (Elt F) ((c : Thread nD τ).loc cc0_scratch0), ⌜f = k0_pay2 x0 x1 x2 k0_pay1 x3⌝ ∗ (acc.view.loc (c : Thread nD τ) ↦{fullShare} f))) -∗ K ⟨⟩))
      ⊢ wp frame (wpE (defs₀ (F := F)) Variants.none c none) Set.univ
          (cc0_moe_experts i tabE (Memref.isWhole_whole _) tabN (Memref.isWhole_whole _) arg4 harg4 arg5 harg5 arg6 harg6 arg7 harg7 arg8 harg8 acc (Memref.isWhole_whole _)) K := by
  unfold given owns
  rw [cc0_moe_experts_eq_skeleton]; unfold cc0_moe_experts_skel
  iintro ⟨⟨H0, H1, H2, H3, HT0, HT1⟩, ⟨%f4, %hf4, HO⟩, HS, Hk⟩
  obtain rfl := harg8.eq_unread hf4
  have hS0 : acc.IsWhole := Memref.isWhole_whole _
  have hT0 : tabE.IsWhole := Memref.isWhole_whole _
  have hT1 : tabN.IsWhole := Memref.isWhole_whole _
  sl_exec! (disch := first | (guard_target = k0_cond1 _ _ = _; exact h1) | (guard_target = Scalar.cmpi = _; exact h2) | (guard_target = ¬(k0_cond3 _ = _); exact h3))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO]
  · iexists _; isplitr
    swap
    · iexact HO
    ipureintro
    exact harg8.read_unread _
  iexists _
  isplitr
  swap
  · iexact HS
  ipureintro
  unfold run_first.sl.HS_2
  refine (acc_writes _ _ _).trans ?_
  unfold run_first.sl.v14 run_first.sl.HS_1
  rw [View.readCov_full]
  rw [View.readAt_rep_full, View.readAt_rep_full, View.readAt_rep_full, View.readAt_rep_full]

set_option backward.proofsInPublic true in
set_option maxHeartbeats 8000000 in
/-- A middle point of a used block: the accumulator takes one more partial product; the output is left alone. -/
theorem run_mid (K : PUnit → sProp 𝕄) (h1 : k0_cond1 i (View.readAt (Elt F) tabN.view (Rect.unit (s := S1) ![0] S1.size inb_S1_S1_0).toLoadRect T1 (Shape.Idx.first (numel1_S1.symm ▸ Nat.one_pos))) = 1#1)
    (h2 : ¬((Scalar.cmpi .ne (Scalar.extui (Scalar.cmpi .eq (BitVec.ofNat 32 (i 1).val) 0#32)) 0#32) = 1#1)) (h3 : ¬(k0_cond3 i = 1#1)) :
    iprop(given c arg4 arg5 arg6 arg7 T0 T1 x0 x1 x2 x3 ∗ owns (c : Thread nD τ) arg8 fullShare y ∗ (acc.view.loc (c : Thread nD τ) ↦{fullShare} ya)
        ∗ (iprop(given c arg4 arg5 arg6 arg7 T0 T1 x0 x1 x2 x3 ∗ owns (c : Thread nD τ) arg8 fullShare y
            ∗ (∃ f : Buf (Elt F) ((c : Thread nD τ).loc cc0_scratch0), ⌜f = k0_pay2 x0 x1 x2 ya x3⌝ ∗ (acc.view.loc (c : Thread nD τ) ↦{fullShare} f))) -∗ K ⟨⟩))
      ⊢ wp frame (wpE (defs₀ (F := F)) Variants.none c none) Set.univ
          (cc0_moe_experts i tabE (Memref.isWhole_whole _) tabN (Memref.isWhole_whole _) arg4 harg4 arg5 harg5 arg6 harg6 arg7 harg7 arg8 harg8 acc (Memref.isWhole_whole _)) K := by
  unfold given owns
  rw [cc0_moe_experts_eq_skeleton]; unfold cc0_moe_experts_skel
  iintro ⟨⟨H0, H1, H2, H3, HT0, HT1⟩, ⟨%f4, %hf4, HO⟩, HS, Hk⟩
  obtain rfl := harg8.eq_unread hf4
  have hS0 : acc.IsWhole := Memref.isWhole_whole _
  have hT0 : tabE.IsWhole := Memref.isWhole_whole _
  have hT1 : tabN.IsWhole := Memref.isWhole_whole _
  sl_exec! (disch := first | (guard_target = k0_cond1 _ _ = _; exact h1) | (guard_target = ¬(Scalar.cmpi _ _ _ = _); exact h2) | (guard_target = ¬(k0_cond3 _ = _); exact h3))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO]
  · iexists _; isplitr
    swap
    · iexact HO
    ipureintro
    exact harg8.read_unread _
  iexists _
  isplitr
  swap
  · iexact HS
  ipureintro
  unfold run_mid.sl.HS_1
  refine (acc_writes _ _ _).trans ?_
  rw [acc_load]
  rw [View.readAt_rep_full, View.readAt_rep_full, View.readAt_rep_full, View.readAt_rep_full]

set_option backward.proofsInPublic true in
set_option maxHeartbeats 8000000 in
/-- The last point of a used block: the accumulator takes the last partial product and is stored to the output. -/theorem run_last (K : PUnit → sProp 𝕄) (h1 : k0_cond1 i (View.readAt (Elt F) tabN.view (Rect.unit (s := S1) ![0] S1.size inb_S1_S1_0).toLoadRect T1 (Shape.Idx.first (numel1_S1.symm ▸ Nat.one_pos))) = 1#1)
    (h2 : ¬((Scalar.cmpi .ne (Scalar.extui (Scalar.cmpi .eq (BitVec.ofNat 32 (i 1).val) 0#32)) 0#32) = 1#1)) (h3 : k0_cond3 i = 1#1) :
    iprop(given c arg4 arg5 arg6 arg7 T0 T1 x0 x1 x2 x3 ∗ owns (c : Thread nD τ) arg8 fullShare y ∗ (acc.view.loc (c : Thread nD τ) ↦{fullShare} ya)
        ∗ (iprop(given c arg4 arg5 arg6 arg7 T0 T1 x0 x1 x2 x3 ∗ owns (c : Thread nD τ) arg8 fullShare (k0_pay2 x0 x1 x2 ya x3)
            ∗ (∃ f : Buf (Elt F) ((c : Thread nD τ).loc cc0_scratch0), ⌜f = k0_pay2 x0 x1 x2 ya x3⌝ ∗ (acc.view.loc (c : Thread nD τ) ↦{fullShare} f))) -∗ K ⟨⟩))
      ⊢ wp frame (wpE (defs₀ (F := F)) Variants.none c none) Set.univ
          (cc0_moe_experts i tabE (Memref.isWhole_whole _) tabN (Memref.isWhole_whole _) arg4 harg4 arg5 harg5 arg6 harg6 arg7 harg7 arg8 harg8 acc (Memref.isWhole_whole _)) K := by
  unfold given owns
  rw [cc0_moe_experts_eq_skeleton]; unfold cc0_moe_experts_skel
  iintro ⟨⟨H0, H1, H2, H3, HT0, HT1⟩, ⟨%f4, %hf4, HO⟩, HS, Hk⟩
  obtain rfl := harg8.eq_unread hf4
  have hS0 : acc.IsWhole := Memref.isWhole_whole _
  have hT0 : tabE.IsWhole := Memref.isWhole_whole _
  have hT1 : tabN.IsWhole := Memref.isWhole_whole _
  sl_exec! (disch := first | (guard_target = k0_cond1 _ _ = _; exact h1) | (guard_target = ¬(Scalar.cmpi _ _ _ = _); exact h2) | (guard_target = k0_cond3 _ = _; exact h3))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO]
  · iexists _; isplitr
    swap
    · iexact HO
    ipureintro
    unfold run_last.sl.HO_1 run_last.sl.v33 run_last.sl.HS_1
    rw [View.read_writes_full, View.readCov_full, acc_load]
    rw [View.readAt_rep_full, View.readAt_rep_full, View.readAt_rep_full, View.readAt_rep_full]
  iexists _
  isplitr
  swap
  · iexact HS
  ipureintro
  unfold run_last.sl.HS_1
  refine (acc_writes _ _ _).trans ?_
  rw [acc_load]
  rw [View.readAt_rep_full, View.readAt_rep_full, View.readAt_rep_full, View.readAt_rep_full]

set_option backward.proofsInPublic true in
set_option maxHeartbeats 8000000 in
/-- A point of an unused block does nothing. -/
theorem run_idle (K : PUnit → sProp 𝕄) (h1 : ¬(k0_cond1 i (View.readAt (Elt F) tabN.view (Rect.unit (s := S1) ![0] S1.size inb_S1_S1_0).toLoadRect T1 (Shape.Idx.first (numel1_S1.symm ▸ Nat.one_pos))) = 1#1)) :
    iprop(given c arg4 arg5 arg6 arg7 T0 T1 x0 x1 x2 x3 ∗ owns (c : Thread nD τ) arg8 fullShare y ∗ (acc.view.loc (c : Thread nD τ) ↦{fullShare} ya)
        ∗ (iprop(given c arg4 arg5 arg6 arg7 T0 T1 x0 x1 x2 x3 ∗ owns (c : Thread nD τ) arg8 fullShare y
            ∗ (acc.view.loc (c : Thread nD τ) ↦{fullShare} ya)) -∗ K ⟨⟩))
      ⊢ wp frame (wpE (defs₀ (F := F)) Variants.none c none) Set.univ
          (cc0_moe_experts i tabE (Memref.isWhole_whole _) tabN (Memref.isWhole_whole _) arg4 harg4 arg5 harg5 arg6 harg6 arg7 harg7 arg8 harg8 acc (Memref.isWhole_whole _)) K := by
  unfold given owns
  rw [cc0_moe_experts_eq_skeleton]; unfold cc0_moe_experts_skel
  iintro ⟨⟨H0, H1, H2, H3, HT0, HT1⟩, ⟨%f4, %hf4, HO⟩, HS, Hk⟩
  obtain rfl := harg8.eq_unread hf4
  have hS0 : acc.IsWhole := Memref.isWhole_whole _
  have hT0 : tabE.IsWhole := Memref.isWhole_whole _
  have hT1 : tabN.IsWhole := Memref.isWhole_whole _
  sl_exec! (disch := first | (guard_target = ¬(k0_cond1 _ _ = _); exact h1))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO]
  · iexists _; isplitr
    swap
    · iexact HO
    ipureintro
    exact harg8.read_unread _
  iexact HS

end Cert.Kernel.Moe

end
-- ==== Proof.MoeGrid.lean ====
/- The points of the grid and the words of the two tables: which block of which array each window is on at a point, when the output is written back, and when the
   output's staging buffer holds something a point has stored. -/
module

public import proofs.«01_k».proof.Proof.MoeRuns

@[expose] public section

set_option maxRecDepth 16384

noncomputable section

namespace Cert.Kernel.Moe

open Cert.Kernel Cert.Kernel.Gen
open Idealize.ShloMosaic
open Idealize.ShloMosaic.TcCoe Idealize.ShloMosaic.Tactic

variable {F : FTy → Type} [FloatOps F]

/-- The one index of the table with the number of used blocks. -/
abbrev z1 : S1.Idx := Shape.Idx.first (numel1_S1.symm ▸ Nat.one_pos)

/-- The number of used blocks. -/
def nuOf (T1 : S1.Idx → BitVec 32) : ℕ := (T1 z1).toNat

/-- The index of the table of experts at block `k`. -/
def i72 (k : Fin 72) : S72.Idx := fun a => ⟨k.val, by fin_cases a; exact k.2⟩

theorem idx1_eq (x : S1.Idx) : x = z1 := by
  funext a
  fin_cases a
  have h1 : (x 0).val < 1 := (x 0).2
  have h2 : (z1 0).val < 1 := (z1 0).2
  exact Fin.ext (by show (x 0).val = (z1 0).val; omega)

theorem word1 (T1 : S1.Idx → BitVec 32) (x : S1.Idx) : T1 x = BitVec.ofNat 32 (nuOf T1) := by
  rw [idx1_eq x]; unfold nuOf; rw [BitVec.ofNat_toNat, BitVec.setWidth_eq]

theorem slt_word : ∀ (i : Fin 72) (n : Fin 73), Scalar.cmpi .slt (BitVec.ofNat 32 i.val) (BitVec.ofNat 32 n.val) = if i.val < n.val then 1#1 else 0#1 := by
  decide +kernel

theorem min_word : ∀ (i : Fin 72) (n : Fin 73), 1 ≤ n.val → (Scalar.minsi (BitVec.ofNat 32 i.val) (Scalar.subi (BitVec.ofNat 32 n.val) 1#32)).toNat = min i.val (n.val - 1) := by
  decide +kernel

theorem coords_val : ∀ t : Fin grid0.N, (grid0.coords t 0).val = t.val / 7 ∧ (grid0.coords t 1).val = t.val % 7 := by decide +kernel

theorem first_word : ∀ j : Fin 7, ((Scalar.cmpi .ne (Scalar.extui (Scalar.cmpi .eq (BitVec.ofNat 32 j.val) 0#32)) 0#32) = 1#1) ↔ j.val = 0 := by decide +kernel

theorem last_word : ∀ i : grid0.Coords, k0_cond3 i = 1#1 ↔ (i 1).val = 6 := by decide +kernel

theorem ext_word : ∀ b : BitVec 1, Scalar.cmpi .ne (Scalar.extui b : BitVec 32) 0#32 = b := by decide +kernel

/-- The body's first question is whether the block is used. -/
theorem cond1_iff (i : grid0.Coords) (T1 : S1.Idx → BitVec 32) (hn : nuOf T1 ≤ 72) (x : S1.Idx) : k0_cond1 i (T1 x) = 1#1 ↔ (i 0).val < nuOf T1 := by
  rw [word1 T1 x]
  show Scalar.cmpi .ne (Scalar.extui (Scalar.cmpi .slt (BitVec.ofNat 32 (i 0).val) (BitVec.ofNat 32 (nuOf T1))) : BitVec 32) 0#32 = 1#1 ↔ _
  rw [ext_word, slt_word (i 0) ⟨nuOf T1, by omega⟩]
  split <;> simp_all

variable (pf : pre0.Contents (Elt F))

theorem at1_eq (r : Rect (pre0.ref 1).ty.shape) (h : r.shape.numel = 1) : (pf.at 1 r h : BitVec 32) = BitVec.ofNat 32 (nuOf (pf 1)) :=
  word1 (pf 1) _

theorem at0_eq (i : grid0.Coords) (hb : ∀ a, (![(Scalar.indexCast (BitVec.ofNat 32 (i 0).val) : BitVec 32).toNat] : Fin 1 → ℕ) a + S1.size a ≤ S72.size a) :
    (pf.at 0 (Rect.unit (s := S72) ![(Scalar.indexCast (BitVec.ofNat 32 (i 0).val) : BitVec 32).toNat] S1.size hb) numel1_S1 : BitVec 32) = pf 0 (i72 (i 0)) := by
  refine congrArg (pf 0) (funext fun a => Fin.ext ?_)
  fin_cases a
  have h : ∀ k : Fin 72, (Scalar.indexCast (BitVec.ofNat 32 k.val) : BitVec 32).toNat = k.val := by decide +kernel
  exact (h (i 0))

/-- The tables are in range: at most 72 used blocks and at least one, and every listed expert one of the 8. -/
structure InRange : Prop where
  lo : 1 ≤ nuOf (pf 1)
  hi : nuOf (pf 1) ≤ 72
  ex : ∀ k, (pf 0 (i72 k)).toNat < 8

variable {pf}

theorem sel_word (hr : InRange pf) (i : grid0.Coords) :
    (Scalar.select (Scalar.cmpi .slt (BitVec.ofNat 32 (i 0).val) (BitVec.ofNat 32 (nuOf (pf 1)))) (BitVec.ofNat 32 (i 1).val) 6#32)
      = BitVec.ofNat 32 (if (i 0).val < nuOf (pf 1) then (i 1).val else 6) := by
  rw [slt_word (i 0) ⟨nuOf (pf 1), by have := hr.hi; omega⟩]
  split <;> rfl

theorem tr0_words (hr : InRange pf) (i : grid0.Coords) (w1 : BitVec 32) (h1 : w1 = BitVec.ofNat 32 (nuOf (pf 1))) :
    ![(Scalar.minsi (BitVec.ofNat 32 (i 0).val) (Scalar.subi w1 1#32)).toNat, (0#32).toNat] = ![min (i 0).val (nuOf (pf 1) - 1), 0] := by
  rw [h1, min_word (i 0) ⟨nuOf (pf 1), by have := hr.hi; omega⟩ hr.lo]; rfl

/-- The block of rows at a point. -/
theorem tr0 (hr : InRange pf) (i : grid0.Coords) : cc0_transform_0 inb_S1_S1_0 numel1_S1 pf i = ![min (i 0).val (nuOf (pf 1) - 1), 0] :=
  tr0_words hr i _ (at1_eq pf _ _)

theorem tr4 (hr : InRange pf) (i : grid0.Coords) : cc0_transform_4 inb_S1_S1_0 numel1_S1 pf i = ![min (i 0).val (nuOf (pf 1) - 1), 0] := tr0 hr i

/-- The column tile at a point: the point's own in a used block, the last one after. -/
def tileOf (pf : pre0.Contents (Elt F)) (i : grid0.Coords) : ℕ := if (i 0).val < nuOf (pf 1) then (i 1).val else 6

theorem tileOf_lt (i : grid0.Coords) : tileOf pf i < 7 := by
  unfold tileOf; have : (i 1).val < 7 := (i 1).2
  split <;> omega

theorem sel_toNat (hr : InRange pf) (i : grid0.Coords) (w1 : BitVec 32) (h1 : w1 = BitVec.ofNat 32 (nuOf (pf 1))) :
    (Scalar.select (Scalar.cmpi .slt (BitVec.ofNat 32 (i 0).val) w1) (BitVec.ofNat 32 (i 1).val) 6#32) = BitVec.ofNat 32 (tileOf pf i) := by
  subst h1; exact sel_word hr i

theorem tile_toNat (i : grid0.Coords) : (BitVec.ofNat 32 (tileOf pf i)).toNat = tileOf pf i := by
  rw [BitVec.toNat_ofNat]; exact Nat.mod_eq_of_lt (by have := tileOf_lt (pf := pf) i; omega)

theorem tr1_words (hr : InRange pf) (i : grid0.Coords) (w0 w1 : BitVec 32) (h0 : w0 = pf 0 (i72 (i 0))) (h1 : w1 = BitVec.ofNat 32 (nuOf (pf 1))) :
    ![w0.toNat, (0#32).toNat, (Scalar.select (Scalar.cmpi .slt (BitVec.ofNat 32 (i 0).val) w1) (BitVec.ofNat 32 (i 1).val) 6#32).toNat] = ![(pf 0 (i72 (i 0))).toNat, 0, tileOf pf i] := by
  rw [sel_toNat hr i w1 h1, tile_toNat, h0]; rfl

theorem tr2_words (hr : InRange pf) (i : grid0.Coords) (w0 w1 : BitVec 32) (h0 : w0 = pf 0 (i72 (i 0))) (h1 : w1 = BitVec.ofNat 32 (nuOf (pf 1))) :
    ![w0.toNat, (0#32).toNat, (Scalar.addi 7#32 (Scalar.select (Scalar.cmpi .slt (BitVec.ofNat 32 (i 0).val) w1) (BitVec.ofNat 32 (i 1).val) 6#32)).toNat] = ![(pf 0 (i72 (i 0))).toNat, 0, 7 + tileOf pf i] := by
  have h7 : ∀ k : Fin 7, (Scalar.addi 7#32 (BitVec.ofNat 32 k.val)).toNat = 7 + k.val := by decide +kernel
  rw [sel_toNat hr i w1 h1, h7 ⟨tileOf pf i, tileOf_lt i⟩, h0]; rfl

theorem tr3_words (hr : InRange pf) (i : grid0.Coords) (w0 w1 : BitVec 32) (h0 : w0 = pf 0 (i72 (i 0))) (h1 : w1 = BitVec.ofNat 32 (nuOf (pf 1))) :
    ![w0.toNat, (Scalar.select (Scalar.cmpi .slt (BitVec.ofNat 32 (i 0).val) w1) (BitVec.ofNat 32 (i 1).val) 6#32).toNat, (0#32).toNat] = ![(pf 0 (i72 (i 0))).toNat, tileOf pf i, 0] := by
  rw [sel_toNat hr i w1 h1, tile_toNat, h0]; rfl

theorem tr1 (hr : InRange pf) (i : grid0.Coords) : cc0_transform_1 k0_off1_inb numel1_S1 inb_S1_S1_0 pf i = ![(pf 0 (i72 (i 0))).toNat, 0, tileOf pf i] :=
  tr1_words hr i _ _ (at0_eq pf i _) (at1_eq pf _ _)

theorem tr2 (hr : InRange pf) (i : grid0.Coords) : cc0_transform_2 k0_off1_inb numel1_S1 inb_S1_S1_0 pf i = ![(pf 0 (i72 (i 0))).toNat, 0, 7 + tileOf pf i] :=
  tr2_words hr i _ _ (at0_eq pf i _) (at1_eq pf _ _)

theorem tr3 (hr : InRange pf) (i : grid0.Coords) : cc0_transform_3 k0_off1_inb numel1_S1 inb_S1_S1_0 pf i = ![(pf 0 (i72 (i 0))).toNat, tileOf pf i, 0] :=
  tr3_words hr i _ _ (at0_eq pf i _) (at1_eq pf _ _)

/-- Tables in range put every block inside its array. -/
theorem ok_of_inRange (hr : InRange pf) : ok0 pf := by
  have h0 : ∀ i : grid0.Coords, min (i 0).val (nuOf (pf 1) - 1) < 72 := fun i => by have : (i 0).val < 72 := (i 0).2; omega
  have he := hr.ex
  refine ⟨fun i => ⟨?_, .inr (Affine.block_words_dvd (s := S36864x1024) (p := EltTy.packing .bf16) (by decide) (by decide))⟩,
    fun i => ⟨?_, .inr (Affine.block_words_dvd (s := S8x1024x7168) (p := EltTy.packing .bf16) (by decide) (by decide))⟩,
    fun i => ⟨?_, .inr (Affine.block_words_dvd (s := S8x1024x7168) (p := EltTy.packing .bf16) (by decide) (by decide))⟩,
    fun i => ⟨?_, .inr (Affine.block_words_dvd (s := S8x3584x1024) (p := EltTy.packing .bf16) (by decide) (by decide))⟩,
    fun i => ⟨?_, .inl rfl⟩⟩
  · rw [tr0 hr]; have := h0 i
    intro a; fin_cases a
    · show (min (i 0).val (nuOf (pf 1) - 1) + 1) * 512 ≤ 36864; omega
    · show (0 + 1) * 1024 ≤ 1024; omega
  · rw [tr1 hr]; have := he (i 0); have := tileOf_lt (pf := pf) i
    intro a; fin_cases a
    · show ((pf 0 (i72 (i 0))).toNat + 1) * 1 ≤ 8; omega
    · show (0 + 1) * 1024 ≤ 1024; omega
    · show (tileOf pf i + 1) * 512 ≤ 7168; omega
  · rw [tr2 hr]; have := he (i 0); have := tileOf_lt (pf := pf) i
    intro a; fin_cases a
    · show ((pf 0 (i72 (i 0))).toNat + 1) * 1 ≤ 8; omega
    · show (0 + 1) * 1024 ≤ 1024; omega
    · show (7 + tileOf pf i + 1) * 512 ≤ 7168; omega
  · rw [tr3 hr]; have := he (i 0); have := tileOf_lt (pf := pf) i
    intro a; fin_cases a
    · show ((pf 0 (i72 (i 0))).toNat + 1) * 1 ≤ 8; omega
    · show (tileOf pf i + 1) * 512 ≤ 3584; omega
    · show (0 + 1) * 1024 ≤ 1024; omega
  · rw [tr4 hr]; have := h0 i
    intro a; fin_cases a
    · show (min (i 0).val (nuOf (pf 1) - 1) + 1) * 512 ≤ 36864; omega
    · show (0 + 1) * 1024 ≤ 1024; omega

/-! ## The output's schedule -/

variable (a : (pcfg0 (F := F)).Adm)

/-- The number of used blocks, of the pinned tables. -/
abbrev nu : ℕ := nuOf (a.1 1)

theorem N_eq : (cfg0 a).N = 504 := N_0

theorem t_lt (t : Fin (cfg0 a).N) : t.val < 504 := by have := t.2; have := N_eq a; omega

/-- The output's staging buffer is left alone except at the last point of a used block. -/
theorem idle4_iff (hr : InRange a.1) (t : Fin (cfg0 a).N) : (cfg0 a).idle (4 : Fin 5) ((cfg0 a).grid.coords t) = !decide (t.val / 7 < nu a ∧ t.val % 7 = 6) := by
  show (!(k0_cond1 (grid0.coords t) (a.1.atD 1 ![0]) == 1#1 && k0_cond3 (grid0.coords t) == 1#1)) = _
  congr 1
  obtain ⟨h0, h1⟩ := coords_val t
  have e1 : (k0_cond1 (grid0.coords t) (a.1.atD 1 ![0]) = 1#1) ↔ t.val / 7 < nu a := by
    rw [← h0]
    have : (a.1.atD 1 ![0] : BitVec 32) = (a.1 1 : S1.Idx → BitVec 32) z1 := by
      exact (dif_pos (fun x => by fin_cases x; exact Nat.le_refl 1)).trans (congrArg (a.1 1) (idx1_eq _))
    rw [this]; exact cond1_iff _ _ hr.hi z1
  have e2 := last_word (grid0.coords t)
  rw [h1] at e2
  rw [Bool.eq_iff_iff]
  simp only [Bool.and_eq_true, beq_iff_eq, decide_eq_true_eq, e1, e2]

/-- The output's block moves on, and is written back, after the last point of every used block but the last, and at the end of the grid. -/
theorem flush4_iff (hr : InRange a.1) (t : Fin (cfg0 a).N) : ((cfg0 a).win (4 : Fin 5)).flush t = decide (t.val = 503 ∨ (t.val % 7 = 6 ∧ t.val / 7 + 1 < nu a)) := by
  have ht := t_lt a t
  have hix : ∀ s : Fin (cfg0 a).N, ((cfg0 a).win (4 : Fin 5)).index s = ![min (s.val / 7) (nu a - 1), 0] := fun s => by
    rw [← (coords_val s).1]; exact tr4 hr (grid0.coords s)
  unfold Pipeline.Window.flush
  rw [show ((cfg0 a).win (4 : Fin 5)).isOut = true from rfl, Bool.true_and, Bool.eq_iff_iff]
  simp only [Bool.or_eq_true, decide_eq_true_eq]
  have hN : (cfg0 a).N = 504 := N_0
  have hN' : (pcfg0.gridAt a.1).N = 504 := N_0
  have hlo : 1 ≤ nu a := hr.lo
  have hhi : nu a ≤ 72 := hr.hi
  constructor
  · rintro (h | ⟨h, hne⟩)
    · left; omega
    · right
      rw [hix, hix] at hne
      have : ¬ min ((t.val + 1) / 7) (nu a - 1) = min (t.val / 7) (nu a - 1) := fun he => hne (by rw [show ((⟨t.val + 1, h⟩ : Fin (cfg0 a).N).val) = t.val + 1 from rfl, he])
      omega
  · rintro (h | ⟨h, h2⟩)
    · left; omega
    · right
      refine ⟨by omega, ?_⟩
      rw [hix, hix]
      intro he
      have := congrFun he 0
      have : min ((t.val + 1) / 7) (nu a - 1) = min (t.val / 7) (nu a - 1) := this
      omega

/-- From the first unused block on, the output's staging buffer still holds what the last used block stored. -/
theorem fresh4_unused (hr : InRange a.1) (n : ℕ) (h1 : 7 * nu a ≤ n) (h2 : n < 504) : (cfg0 a).fresh (4 : Fin 5) n = false := by
  have hlo : 1 ≤ nu a := hr.lo
  induction n with
  | zero => omega
  | succ n ih =>
    have hn : n < (cfg0 a).N := by rw [N_eq]; omega
    rw [Pipeline.Cfg.fresh_succ _ _ n hn, flush4_iff a hr, idle4_iff a hr]
    have hf : decide (n = 503 ∨ (n % 7 = 6 ∧ n / 7 + 1 < nu a)) = false := by
      rw [decide_eq_false_iff_not]; omega
    show (decide (n = 503 ∨ (n % 7 = 6 ∧ n / 7 + 1 < nu a)) || (!decide (n / 7 < nu a ∧ n % 7 = 6) && _)) = false
    rw [hf, Bool.false_or]
    by_cases hc : 7 * nu a ≤ n
    · rw [ih hc (by omega), Bool.and_false]
    · rw [show decide (n / 7 < nu a ∧ n % 7 = 6) = true by rw [decide_eq_true_eq]; omega]
      rfl

end Cert.Kernel.Moe

end
-- ==== Proof.MoeDat.lean ====
/- What the accumulator and the output's staging buffer hold after each point, and the proof that the body computes it. -/
module

public import proofs.«01_k».proof.Proof.MoeGrid

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (V : (c : Dev nD) → (b : Ref sig .tc) → Buf (Elt F) ((c : Thread nD τ).loc b))

/-- A point's coordinates. -/
abbrev crd (t : Fin (cfg0 a).N) : (cfg0 a).grid.Coords := (cfg0 a).grid.coords t

/-- Each window's staging memref at a point, and that it is a whole buffer. -/
abbrev ms0 (t : Fin (cfg0 a).N) : Memref sig .tc .vmem S512x1024 .bf16 := spec0_0.stage ((cfg0 a).slots t (0 : Fin 5))
abbrev hs0 (t : Fin (cfg0 a).N) : (ms0 a t).IsWhole := hstage0_0 (((cfg0 a).slots t (0 : Fin 5)).cast nbuf0_0)
abbrev ms1 (t : Fin (cfg0 a).N) : Memref sig .tc .vmem S1x1024x512 .bf16 := spec0_1.stage ((cfg0 a).slots t (1 : Fin 5))
abbrev hs1 (t : Fin (cfg0 a).N) : (ms1 a t).IsWhole := hstage0_1 (((cfg0 a).slots t (1 : Fin 5)).cast nbuf0_1)
abbrev ms2 (t : Fin (cfg0 a).N) : Memref sig .tc .vmem S1x1024x512 .bf16 := spec0_2.stage ((cfg0 a).slots t (2 : Fin 5))
abbrev hs2 (t : Fin (cfg0 a).N) : (ms2 a t).IsWhole := hstage0_2 (((cfg0 a).slots t (2 : Fin 5)).cast nbuf0_2)
abbrev ms3 (t : Fin (cfg0 a).N) : Memref sig .tc .vmem S1x512x1024 .bf16 := spec0_3.stage ((cfg0 a).slots t (3 : Fin 5))
abbrev hs3 (t : Fin (cfg0 a).N) : (ms3 a t).IsWhole := hstage0_3 (((cfg0 a).slots t (3 : Fin 5)).cast nbuf0_3)
abbrev ms4 (t : Fin (cfg0 a).N) : Memref sig .tc .vmem S512x1024 .f32 := spec0_4.stage ((cfg0 a).slots t (4 : Fin 5))
abbrev hs4 (t : Fin (cfg0 a).N) : (ms4 a t).IsWhole := hstage0_4 (((cfg0 a).slots t (4 : Fin 5)).cast nbuf0_4)

/-- Window `w`'s block at a point, read off its array as the region finds it. -/
def iblk (c : Dev nD) (w : Fin (cfg0 a).W) (t : Fin (cfg0 a).N) : (((cfg0 a).win w).xblock (crd a t)).Idx → Elt F ((cfg0 a).win w).elt :=
  (((cfg0 a).win w).blk t).view.read (Elt F) (V c (Pipeline.arrRef (cfg0 a).spec w))

/-- The output's staging buffer and the accumulator. -/
abbrev Held : Type := (S512x1024.Idx → Elt F .f32) × (S512x1024.Idx → Elt F .f32)

/-- The accumulator after a point of a used block: the point's partial product added to what it held, or to zero at the first. -/
def accStep (c : Dev nD) (t : Fin (cfg0 a).N) (x : S512x1024.Idx → Elt F .f32) : S512x1024.Idx → Elt F .f32 :=
  k0_pay2 (iblk a V c (0 : Fin 5) t) (iblk a V c (1 : Fin 5) t) (iblk a V c (2 : Fin 5) t) (if t.val % 7 = 0 then k0_pay1 else x) (iblk a V c (3 : Fin 5) t)

/-- One point: nothing changes in an unused block; in a used one the accumulator steps, and the last point stores it to the output. -/
def step (c : Dev nD) (t : Fin (cfg0 a).N) (p : Held (F := F)) : Held (F := F) :=
  if t.val / 7 < nu a then (if t.val % 7 = 6 then accStep a V c t p.2 else p.1, accStep a V c t p.2) else p

/-- What they hold after position `n`. -/
def traj (c : Dev nD) : (n : ℕ) → n < (cfg0 a).N → Held (F := F)
  | 0, h => step a V c ⟨0, h⟩ (k0_pay1, k0_pay1)
  | n + 1, h => step a V c ⟨n + 1, h⟩ (traj c n (Nat.lt_of_succ_lt h))

/-- What they held before position `n`. -/
def prev (c : Dev nD) (n : ℕ) (h : n ≤ (cfg0 a).N) : Held (F := F) :=
  if h0 : n = 0 then (k0_pay1, k0_pay1) else traj a V c (n - 1) (by omega)

theorem traj_eq (c : Dev nD) (t : Fin (cfg0 a).N) : traj a V c t.val t.isLt = step a V c t (prev a V c t.val t.isLt.le) := by
  obtain ⟨n, hn⟩ := t
  cases n with
  | zero => rfl
  | succ n => unfold prev; simp only [Nat.add_one_ne_zero, dif_neg, not_false_eq_true]; rfl

theorem prev_succ (c : Dev nD) (t : Fin (cfg0 a).N) : prev a V c (t.val + 1) t.isLt = traj a V c t.val t.isLt := by
  unfold prev; simp only [Nat.add_one_ne_zero, ↓reduceDIte, Nat.add_one_sub_one]

/-- Between points: the accumulator at what the points before left (anything before the first), the two tables, and the core's random register. -/
def Phi (c : Dev nD) (n : ℕ) (h : n ≤ (cfg0 a).N) : sProp 𝕄 :=
  iprop((∃ f : Buf (Elt F) ((c : Thread nD τ).loc cc0_scratch0), ⌜n ≠ 0 → f = (prev a V c n h).2⌝ ∗ (acc.view.loc (c : Thread nD τ) ↦{fullShare} f))
    ∗ (tabE.view.loc (c : Thread nD τ) ↦{fullShare.right} a.1 0) ∗ (tabN.view.loc (c : Thread nD τ) ↦{fullShare.right} a.1 1) ∗ (∃ r, prngReg c r))

/-- The pipeline's proof data on core `c`. -/
def dats (_ : Fin 1) (c : Dev nD) : Dat τ (Elt F) Unit ℕ (UR sig nD τ) ℕ (cfg0 a) c where
  A w := V c (Pipeline.arrRef (cfg0 a).spec w)
  after w t := match w with
    | ⟨0, _⟩ => iblk a V c (0 : Fin 5) t
    | ⟨1, _⟩ => iblk a V c (1 : Fin 5) t
    | ⟨2, _⟩ => iblk a V c (2 : Fin 5) t
    | ⟨3, _⟩ => iblk a V c (3 : Fin 5) t
    | ⟨4, _⟩ => (traj a V c t.val t.isLt).1
  Φ t := Phi a V c t.val (Nat.lt_succ_iff.mp t.isLt)
  q := Pipeline.shareOf (cfg0 a).spec
  owed _ := 0

theorem after_0 (c : Dev nD) (t : Fin (cfg0 a).N) : (dats a V 0 c).after (0 : Fin 5) t = iblk a V c (0 : Fin 5) t := rfl
theorem after_1 (c : Dev nD) (t : Fin (cfg0 a).N) : (dats a V 0 c).after (1 : Fin 5) t = iblk a V c (1 : Fin 5) t := rfl
theorem after_2 (c : Dev nD) (t : Fin (cfg0 a).N) : (dats a V 0 c).after (2 : Fin 5) t = iblk a V c (2 : Fin 5) t := rfl
theorem after_3 (c : Dev nD) (t : Fin (cfg0 a).N) : (dats a V 0 c).after (3 : Fin 5) t = iblk a V c (3 : Fin 5) t := rfl
theorem after_4 (c : Dev nD) (t : Fin (cfg0 a).N) : (dats a V 0 c).after (4 : Fin 5) t = (traj a V c t.val t.isLt).1 := rfl

/-- An input window holds its block when the body runs. -/
theorem before_0 (c : Dev nD) (t : Fin (cfg0 a).N) (d) : (dats a V 0 c).before (0 : Fin 5) t d = iblk a V c (0 : Fin 5) t :=
  ((dats a V 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfg0 a).N) (d) : (dats a V 0 c).before (1 : Fin 5) t d = iblk a V c (1 : Fin 5) t :=
  ((dats a V 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfg0 a).N) (d) : (dats a V 0 c).before (2 : Fin 5) t d = iblk a V c (2 : Fin 5) t :=
  ((dats a V 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfg0 a).N) (d) : (dats a V 0 c).before (3 : Fin 5) t d = iblk a V c (3 : Fin 5) t :=
  ((dats a V 0 c).before_in_eq_fetched (3 : Fin 5) rfl (fun _ => rfl) (fun _ _ _ => rfl) (fun t => by rw [after_3]; unfold Dat.blockOf iblk; rfl) t d).trans
    (by unfold Dat.fetched Dat.blockOf iblk; rfl)

variable (hr : InRange a.1)
include hr

/-- The output's staging buffer is carried through the points that leave it alone. -/
theorem carry_4 (c : Dev nD) (t : Fin (cfg0 a).N) (ht : t.val ≠ 0) (hi : (cfg0 a).idle (4 : Fin 5) ((cfg0 a).grid.coords t) = true) :
    (traj a V c t.val t.isLt).1 = (prev a V c t.val t.isLt.le).1 := by
  rw [idle4_iff a hr, Bool.not_eq_true', decide_eq_false_iff_not] at hi
  rw [traj_eq]
  unfold step
  split
  · rename_i h1
    rw [if_neg fun h2 => hi ⟨h1, h2⟩]
  · rfl

theorem before_4 (c : Dev nD) (t : Fin (cfg0 a).N) (d) :
    (dats a V 0 c).before (4 : Fin 5) t d = if (cfg0 a).fresh (4 : Fin 5) t.val then d else (prev a V c t.val t.isLt.le).1 := by
  have hp : ∀ (t : Fin (cfg0 a).N) (h0 : t.val ≠ 0), (prev a V c t.val t.isLt.le).1 = (dats a V 0 c).after (4 : Fin 5) ⟨t.val - 1, by omega⟩ := fun t h0 => by
    rw [after_4]; unfold prev; rw [dif_neg h0]
  rw [(dats a V 0 c).before_out_traj (4 : Fin 5) rfl (fun _ _ => rfl)
    (fun t ht hi _ => by rw [after_4, carry_4 a V hr c t ht hi, hp t ht]) t.val t rfl d]
  by_cases hf : (cfg0 a).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte]; exact (hp t h0).symm

omit hr in
/-- The body at a point, as the pipeline calls it. -/
abbrev bodyAt (t : Fin (cfg0 a).N) : Prog (TpuEff nD τ sig (Elt F) Λ₀ .tc) PUnit :=
  cc0_moe_experts (crd a t) tabE (Memref.isWhole_whole _) tabN (Memref.isWhole_whole _) (ms0 a t) (hs0 a t) (ms1 a t) (hs1 a t) (ms2 a t) (hs2 a t) (ms3 a t) (hs3 a t) (ms4 a t) (hs4 a t) acc (Memref.isWhole_whole _)

set_option maxHeartbeats 4000000 in
theorem sound_body (c : Dev nD) (t : Fin (cfg0 a).N) :
    iprop((dats a V 0 c).Φ t.castSucc ∗ (dats a V 0 c).owesAt () t.castSucc
        ∗ (∃ d, owns (c : Thread nD τ) (ms0 a t) fullShare ((dats a V 0 c).before (0 : Fin 5) t d))
        ∗ (∃ d, owns (c : Thread nD τ) (ms1 a t) fullShare ((dats a V 0 c).before (1 : Fin 5) t d))
        ∗ (∃ d, owns (c : Thread nD τ) (ms2 a t) fullShare ((dats a V 0 c).before (2 : Fin 5) t d))
        ∗ (∃ d, owns (c : Thread nD τ) (ms3 a t) fullShare ((dats a V 0 c).before (3 : Fin 5) t d))
        ∗ (∃ d, owns (c : Thread nD τ) (ms4 a t) fullShare ((dats a V 0 c).before (4 : Fin 5) t d)))
      ⊢ wp frame (wpE (defs₀ (F := F)) Variants.none c none) Set.univ (bodyAt a t) fun _ =>
          iprop((dats a V 0 c).Φ t.succ ∗ (dats a V 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a V 0 c).before w t d))
                  | true => owns (c : Thread nD τ) (((cfg0 a).win w).stage ((cfg0 a).slots t w)) fullShare ((dats a V 0 c).after w t)
                | false => owns (c : Thread nD τ) (((cfg0 a).win w).stage ((cfg0 a).slots t w)) fullShare ((dats a V 0 c).after w t)) := by
  rw [bigSep_W0]
  obtain ⟨hc0, hc1⟩ := coords_val t
  have hc0' : (crd a t 0).val = t.val / 7 := hc0
  have hc1' : (crd a t 1).val = t.val % 7 := hc1
  have ht := t_lt a t
  have C1 := cond1_iff (crd a t) (a.1 1) hr.hi
  have C2 := (first_word (crd a t 1)).trans (by rw [hc1'] : _ ↔ t.val % 7 = 0)
  have C3 := (last_word (crd a t)).trans (by rw [hc1'] : _ ↔ t.val % 7 = 6)
  rw [hc0'] at C1
  have hi4 := idle4_iff a hr t
  have hf4 := flush4_iff a hr t
  have hΦs : (dats a V 0 c).Φ t.succ = Phi a V c (t.val + 1) t.isLt := rfl
  have hΦc : (dats a V 0 c).Φ t.castSucc = Phi a V c t.val t.isLt.le := rfl
  rewrite [hΦs, hΦc, show (dats a V 0 c).owesAt () t.succ = (dats a V 0 c).owesAt () t.castSucc from rfl]
  by_cases q1 : t.val / 7 < nu a
  · by_cases q2 : t.val % 7 = 0
    · rw [show decide (t.val / 7 < nu a ∧ t.val % 7 = 6) = false by simp only [decide_eq_false_iff_not, decide_eq_true_eq]; omega] at hi4
      rw [show decide (t.val = 503 ∨ (t.val % 7 = 6 ∧ t.val / 7 + 1 < nu a)) = false by simp only [decide_eq_false_iff_not, decide_eq_true_eq]; omega] at hf4
      rewrite [hi4]
      simp only [before_0, before_1, before_2, before_3, after_0, after_1, after_2, after_3, hf4, Bool.not_false]
      unfold Phi
      iintro ⟨⟨⟨%f0, %hf0, HS⟩, HT0, HT1, HP⟩, Ho, ⟨%d0, H0⟩, ⟨%d1, H1⟩, ⟨%d2, H2⟩, ⟨%d3, H3⟩, ⟨%d4, H4⟩⟩
      iapply (run_first c (crd a t) (ms0 a t) (hs0 a t) (ms1 a t) (hs1 a t) (ms2 a t) (hs2 a t) (ms3 a t) (hs3 a t) (ms4 a t) (hs4 a t) (a.1 0) (a.1 1) (iblk a V c (0 : Fin 5) t) (iblk a V c (1 : Fin 5) t) (iblk a V c (2 : Fin 5) t) (iblk a V c (3 : Fin 5) t) _ f0 _ ((C1 _).mpr q1) (C2.mpr q2) (fun h => absurd (C3.mp h) (by omega)))
      unfold given
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexact H4
      isplitl [HS]; · iexact HS
      iintro ⟨⟨H0, H1, H2, H3, HT0, HT1⟩, H4, ⟨%g, %hg, HS⟩⟩
      isplitl [HS HT0 HT1 HP]
      · isplitl [HS]
        · iexists _; isplitr; swap
          · iexact HS
          · ipureintro; intro _
            rw [prev_succ, traj_eq, hg]; unfold step accStep; rw [if_pos q1]; exact congrArg (fun z => k0_pay2 _ _ _ z _) (if_pos q2).symm
        isplitl [HT0]; · iexact HT0
        isplitl [HT1]; · iexact HT1
        iexact HP
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
    · by_cases q3 : t.val % 7 = 6
      · rw [show decide (t.val / 7 < nu a ∧ t.val % 7 = 6) = true by simp only [decide_eq_false_iff_not, decide_eq_true_eq]; omega] at hi4
        rewrite [hi4]
        simp only [before_0, before_1, before_2, before_3, after_0, after_1, after_2, after_3, Bool.not_true]
        unfold Phi
        iintro ⟨⟨⟨%f0, %hf0, HS⟩, HT0, HT1, HP⟩, Ho, ⟨%d0, H0⟩, ⟨%d1, H1⟩, ⟨%d2, H2⟩, ⟨%d3, H3⟩, ⟨%d4, H4⟩⟩
        iapply (run_last c (crd a t) (ms0 a t) (hs0 a t) (ms1 a t) (hs1 a t) (ms2 a t) (hs2 a t) (ms3 a t) (hs3 a t) (ms4 a t) (hs4 a t) (a.1 0) (a.1 1) (iblk a V c (0 : Fin 5) t) (iblk a V c (1 : Fin 5) t) (iblk a V c (2 : Fin 5) t) (iblk a V c (3 : Fin 5) t) _ f0 _ ((C1 _).mpr q1) (fun h => q2 (C2.mp h)) (C3.mpr q3))
        unfold given
        isplitl [H0 H1 H2 H3 HT0 HT1]
        · isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          iexact HT1
        isplitl [H4]; · iexact H4
        isplitl [HS]; · iexact HS
        iintro ⟨⟨H0, H1, H2, H3, HT0, HT1⟩, H4, ⟨%g, %hg, HS⟩⟩
        isplitl [HS HT0 HT1 HP]
        · isplitl [HS]
          · iexists _; isplitr; swap
            · iexact HS
            · ipureintro; intro _
              rw [prev_succ, traj_eq, hg, hf0 (by omega)]; unfold step accStep; rw [if_pos q1]; exact congrArg (fun z => k0_pay2 _ _ _ z _) (if_neg q2).symm
          isplitl [HT0]; · iexact HT0
          isplitl [HT1]; · iexact HT1
          iexact HP
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        rw [show (dats a V 0 c).after (4 : Fin 5) t = k0_pay2 (iblk a V c (0 : Fin 5) t) (iblk a V c (1 : Fin 5) t) (iblk a V c (2 : Fin 5) t) f0 (iblk a V c (3 : Fin 5) t) by
          rw [after_4, traj_eq, hf0 (by omega)]; unfold step accStep; rw [if_pos q1]; dsimp only; rw [if_pos q3]; exact congrArg (fun z => k0_pay2 _ _ _ z _) (if_neg q2)]
        iexact H4
      · rw [show decide (t.val / 7 < nu a ∧ t.val % 7 = 6) = false by simp only [decide_eq_false_iff_not, decide_eq_true_eq]; omega] at hi4
        rw [show decide (t.val = 503 ∨ (t.val % 7 = 6 ∧ t.val / 7 + 1 < nu a)) = false by simp only [decide_eq_false_iff_not, decide_eq_true_eq]; omega] at hf4
        rewrite [hi4]
        simp only [before_0, before_1, before_2, before_3, after_0, after_1, after_2, after_3, hf4, Bool.not_false]
        unfold Phi
        iintro ⟨⟨⟨%f0, %hf0, HS⟩, HT0, HT1, HP⟩, Ho, ⟨%d0, H0⟩, ⟨%d1, H1⟩, ⟨%d2, H2⟩, ⟨%d3, H3⟩, ⟨%d4, H4⟩⟩
        iapply (run_mid c (crd a t) (ms0 a t) (hs0 a t) (ms1 a t) (hs1 a t) (ms2 a t) (hs2 a t) (ms3 a t) (hs3 a t) (ms4 a t) (hs4 a t) (a.1 0) (a.1 1) (iblk a V c (0 : Fin 5) t) (iblk a V c (1 : Fin 5) t) (iblk a V c (2 : Fin 5) t) (iblk a V c (3 : Fin 5) t) _ f0 _ ((C1 _).mpr q1) (fun h => q2 (C2.mp h)) (fun h => q3 (C3.mp h)))
        unfold given
        isplitl [H0 H1 H2 H3 HT0 HT1]
        · isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          iexact HT1
        isplitl [H4]; · iexact H4
        isplitl [HS]; · iexact HS
        iintro ⟨⟨H0, H1, H2, H3, HT0, HT1⟩, H4, ⟨%g, %hg, HS⟩⟩
        isplitl [HS HT0 HT1 HP]
        · isplitl [HS]
          · iexists _; isplitr; swap
            · iexact HS
            · ipureintro; intro _
              rw [prev_succ, traj_eq, hg, hf0 (by omega)]; unfold step accStep; rw [if_pos q1]; exact congrArg (fun z => k0_pay2 _ _ _ z _) (if_neg q2).symm
          isplitl [HT0]; · iexact HT0
          isplitl [HT1]; · iexact HT1
          iexact HP
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        iexists d4; iexact H4
  · cases hf : ((cfg0 a).win (4 : Fin 5)).flush t
    · rw [show decide (t.val / 7 < nu a ∧ t.val % 7 = 6) = false by simp only [decide_eq_false_iff_not, decide_eq_true_eq]; omega] at hi4
      rewrite [hi4]
      simp only [before_0, before_1, before_2, before_3, after_0, after_1, after_2, after_3, hf, Bool.not_false]
      unfold Phi
      iintro ⟨⟨⟨%f0, %hf0, HS⟩, HT0, HT1, HP⟩, Ho, ⟨%d0, H0⟩, ⟨%d1, H1⟩, ⟨%d2, H2⟩, ⟨%d3, H3⟩, ⟨%d4, H4⟩⟩
      iapply (run_idle c (crd a t) (ms0 a t) (hs0 a t) (ms1 a t) (hs1 a t) (ms2 a t) (hs2 a t) (ms3 a t) (hs3 a t) (ms4 a t) (hs4 a t) (a.1 0) (a.1 1) (iblk a V c (0 : Fin 5) t) (iblk a V c (1 : Fin 5) t) (iblk a V c (2 : Fin 5) t) (iblk a V c (3 : Fin 5) t) _ f0 _ (fun h => q1 ((C1 _).mp h)))
      unfold given
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexact H4
      isplitl [HS]; · iexact HS
      iintro ⟨⟨H0, H1, H2, H3, HT0, HT1⟩, H4, HS⟩
      isplitl [HS HT0 HT1 HP]
      · isplitl [HS]
        · iexists _; isplitr; swap
          · iexact HS
          · ipureintro; intro _
            rw [prev_succ, traj_eq, hf0 (by have : 1 ≤ nu a := hr.lo; omega)]; unfold step; rw [if_neg q1]
        isplitl [HT0]; · iexact HT0
        isplitl [HT1]; · iexact HT1
        iexact HP
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
    · rw [show decide (t.val / 7 < nu a ∧ t.val % 7 = 6) = false by simp only [decide_eq_false_iff_not, decide_eq_true_eq]; omega] at hi4
      rewrite [hi4]
      simp only [before_0, before_1, before_2, before_3, after_0, after_1, after_2, after_3, hf, Bool.not_false]
      unfold Phi
      iintro ⟨⟨⟨%f0, %hf0, HS⟩, HT0, HT1, HP⟩, Ho, ⟨%d0, H0⟩, ⟨%d1, H1⟩, ⟨%d2, H2⟩, ⟨%d3, H3⟩, ⟨%d4, H4⟩⟩
      iapply (run_idle c (crd a t) (ms0 a t) (hs0 a t) (ms1 a t) (hs1 a t) (ms2 a t) (hs2 a t) (ms3 a t) (hs3 a t) (ms4 a t) (hs4 a t) (a.1 0) (a.1 1) (iblk a V c (0 : Fin 5) t) (iblk a V c (1 : Fin 5) t) (iblk a V c (2 : Fin 5) t) (iblk a V c (3 : Fin 5) t) _ f0 _ (fun h => q1 ((C1 _).mp h)))
      unfold given
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexact H4
      isplitl [HS]; · iexact HS
      iintro ⟨⟨H0, H1, H2, H3, HT0, HT1⟩, H4, HS⟩
      isplitl [HS HT0 HT1 HP]
      · isplitl [HS]
        · iexists _; isplitr; swap
          · iexact HS
          · ipureintro; intro _
            rw [prev_succ, traj_eq, hf0 (by have : 1 ≤ nu a := hr.lo; omega)]; unfold step; rw [if_neg q1]
        isplitl [HT0]; · iexact HT0
        isplitl [HT1]; · iexact HT1
        iexact HP
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      rw [after_4, carry_4 a V hr c t (by have : 1 ≤ nu a := hr.lo; omega) (by rw [hi4]; rfl)]
      ihave H4 := (show owns (c : Thread nD τ) (ms4 a t) fullShare ((dats a V 0 c).before (4 : Fin 5) t d4) ⊢ owns (c : Thread nD τ) (ms4 a t) fullShare (prev a V c t.val t.isLt.le).1 from by
        rw [before_4 a V hr, fresh4_unused a hr t.val (by omega) ht, if_neg Bool.false_ne_true]) $$ H4
      iexact H4

theorem body_obligation (c : Dev nD) : BodyObligation (dats a V 0 c) (defs₀ (F := F)) Variants.none () Set.univ := fun t => by
  rw [bigSep_W0]
  exact sound_body a V hr c t

end Cert.Kernel.Moe

end
-- ==== Proof.MoeTables.lean ====
/- What the launch finds in the arrays and in the two tables, and that the claim's precondition puts the tables in range. -/
module

public import proofs.«01_k».proof.Proof.MoeGrid
public import proofs.«01_k».proof.Proof.Gen.Pre_routed
public import Idealize.ShloMosaic.Lib.StableHlo.Run
public import Idealize.ShloMosaic.Lib.StableHlo.Predicate
public import Idealize.ShloMosaic.Lib.Routing.OpsSearch
public import Idealize.ShloMosaic.Lib.Routing.Ops
public import Idealize.ShloMosaic.Lib.ReduceAll

@[expose] public section

set_option maxRecDepth 16384

noncomputable section

namespace Cert.Kernel.Moe

open Cert.Kernel Cert.Kernel.Gen
open Idealize.ShloMosaic
open Idealize.ShloMosaic.TcCoe Idealize.ShloMosaic.Tactic

variable {F : FTy → Type} [FloatOps F]

variable (m : (ℓ : Loc nD τ sig) → Buf (Elt F) ℓ)

/-- The memory as the region finds it: after the host operations. -/
def V (c : Dev nD) (b : Ref sig .tc) : Buf (Elt F) ((c : Thread nD τ).loc b) :=
  StableHlo.after hostOps0 (fun b => m (c, b)) b

theorem V_arg0 (c : Dev nD) : V m c main_arg0 = m ((c : Thread nD τ).loc main_arg0) := by
  unfold V; after_results_simp <;> rfl
theorem V_arg1 (c : Dev nD) : V m c main_arg1 = m ((c : Thread nD τ).loc main_arg1) := by
  unfold V; after_results_simp <;> rfl
theorem V_arg2 (c : Dev nD) : V m c main_arg2 = m ((c : Thread nD τ).loc main_arg2) := by
  unfold V; after_results_simp <;> rfl
theorem V_arg3 (c : Dev nD) : V m c main_arg3 = m ((c : Thread nD τ).loc main_arg3) := by
  unfold V; after_results_simp <;> rfl
theorem V_arg4 (c : Dev nD) : V m c main_arg4 = m ((c : Thread nD τ).loc main_arg4) := by
  unfold V; after_results_simp <;> rfl
theorem V_v0 (c : Dev nD) : V m c main_v0 = truncf (F := F) .bf16 (m ((c : Thread nD τ).loc main_arg3)) bitsLt_bf16_f32 := by
  unfold V; after_results_simp <;> rfl
theorem V_v1 (c : Dev nD) : V m c main_v1 = truncf (F := F) .bf16 (m ((c : Thread nD τ).loc main_arg4)) bitsLt_bf16_f32 := by
  unfold V; after_results_simp <;> rfl

/-- The positions the table of experts is read at. -/
def takeAt (n : S1.Idx → BitVec 32) : IVec S72x1 32 :=
  let p : IVec S72 32 := minsi (iotaInDim S72 32 0) (broadcastInDim S72 ![0] bcast_S1_S72_0 (subi n (broadcastInDim S1 ![] bcast_S_S1 (constantI S_ 32 1#32))))
  broadcastInDim S72x1 ![0] bcast_S72_S72x1_0 (select (cmpi .slt p (broadcastInDim S72 ![] bcast_S_S72 (constantI S_ 32 0#32)))
    (addi p (broadcastInDim S72 ![] bcast_S_S72 (constantI S_ 32 72#32))) p)

theorem V_v13 (c : Dev nD) : V m c main_v13 = Host.gather gather_S72_S72x1_S72_n_0_n_n_0_1_1 (m ((c : Thread nD τ).loc main_arg1)) (takeAt (m ((c : Thread nD τ).loc main_arg2))) := by
  unfold V; after_results_simp <;> rfl

theorem take_word : ∀ (k : Fin 72) (n : Fin 73), 1 ≤ n.val →
    (let p := IntOp.minsi (BitVec.ofNat 32 k.val) (IntOp.subi (BitVec.ofNat 32 n.val) 1#32)
     if IntOp.cmpi .slt p 0#32 = 1#1 then IntOp.addi p 72#32 else p) = BitVec.ofNat 32 (min k.val (n.val - 1)) := by
  decide +kernel

theorem takeAt_eq (n : S1.Idx → BitVec 32) (h1 : 1 ≤ nuOf n) (h2 : nuOf n ≤ 72) (k : Fin 72) :
    takeAt n (ValueIdx.ix2 k (0 : Fin 1)) = BitVec.ofNat 32 (min k.val (nuOf n - 1)) := by
  have hn : ∀ x, n x = BitVec.ofNat 32 (nuOf n) := word1 n
  refine Eq.trans ?_ (take_word k ⟨nuOf n, by omega⟩ h1)
  unfold takeAt
  rw [Routing.bcCol]
  have hb : broadcastInDim S72 ![0] bcast_S1_S72_0 (subi n (broadcastInDim S1 ![] bcast_S_S1 (constantI S_ 32 1#32))) (ValueIdx.ix1 k)
      = IntOp.subi (BitVec.ofNat 32 (nuOf n)) 1#32 := by
    show IntOp.subi (n _) 1#32 = _
    rw [hn]
  simp only [select, cmpi, addi, minsi]
  rw [hb]
  rfl

/-- The table of experts the region finds: of block `k` the expert of block `min k (nu - 1)`. -/
theorem V_v13_at (c : Dev nD) (h1 : 1 ≤ nuOf (m ((c : Thread nD τ).loc main_arg2))) (h2 : nuOf (m ((c : Thread nD τ).loc main_arg2)) ≤ 72) (k : Fin 72) :
    V m c main_v13 (i72 k) = m ((c : Thread nD τ).loc main_arg1) (i72 ⟨min k.val (nuOf (m ((c : Thread nD τ).loc main_arg2)) - 1), by omega⟩) := by
  have e : ∀ k : Fin 72, i72 k = ValueIdx.ix1 k := fun k => by funext a; fin_cases a; rfl
  rw [V_v13, e, e]
  exact Routing.take_ap gather_S72_S72x1_S72_n_0_n_n_0_1_1 rfl rfl rfl rfl _ _ k (by omega) (by omega) (takeAt_eq _ h1 h2 k)

theorem range_word (w : BitVec 32) (lo hi : ℕ) (hlo : lo < 2 ^ 31) (hhi : hi < 2 ^ 31)
    (h1 : IntOp.cmpi .sge w (BitVec.ofNat 32 lo) = 1#1) (h2 : IntOp.cmpi .sle w (BitVec.ofNat 32 hi) = 1#1) : lo ≤ w.toNat ∧ w.toNat ≤ hi := by
  have e1 : (BitVec.ofNat 32 lo).toInt = lo := StableHlo.Predicate.toInt_ofNat_small lo hlo
  have e2 : (BitVec.ofNat 32 hi).toInt = hi := StableHlo.Predicate.toInt_ofNat_small hi hhi
  simp only [IntOp.cmpi, StableHlo.Predicate.ofBool_eq_one_iff, BitVec.sle, decide_eq_true_eq, e1, e2] at h1 h2
  rw [BitVec.toInt_eq_toNat_cond] at h1 h2
  split at h1 <;> omega

theorem below_word (w : BitVec 32) (hi : ℕ) (hhi : hi < 2 ^ 31)
    (h1 : IntOp.cmpi .sge w 0#32 = 1#1) (h2 : IntOp.cmpi .slt w (BitVec.ofNat 32 hi) = 1#1) : w.toNat < hi := by
  have e2 : (BitVec.ofNat 32 hi).toInt = hi := StableHlo.Predicate.toInt_ofNat_small hi hhi
  simp only [IntOp.cmpi, StableHlo.Predicate.ofBool_eq_one_iff, BitVec.sle, BitVec.slt, decide_eq_true_eq, e2, BitVec.toInt_zero] at h1 h2
  rw [BitVec.toInt_eq_toNat_cond] at h1 h2
  split at h1 <;> omega

/-- The precondition: the number of used blocks is from 1 to 72, and every listed expert is one of the 8. -/
theorem of_routed {x0 : FVec F Cert.Pre_routed.S36864x1024 .bf16} {x1 : IVec S72 32} {x2 : IVec S1 32}
    {x3 : FVec F Cert.Pre_routed.S8x1024x7168 .f32} {x4 : FVec F Cert.Pre_routed.S8x3584x1024 .f32}
    (h : Cert.Pre_routed.fn (F := F) x0 x1 x2 x3 x4 = fun _ => 1#1) :
    (1 ≤ nuOf x2 ∧ nuOf x2 ≤ 72) ∧ ∀ k, (x1 (i72 k)).toNat < 8 := by
  haveI : Subsingleton Cert.Pre_routed.S_.Idx := ⟨fun a b => funext fun d => d.elim0⟩
  have h0 := congrFun h (fun d => d.elim0)
  obtain ⟨ha, hb⟩ := IntOp.andi_eq_one.1 h0
  have hn := Host.reduce_andi_all _ _ _ _ _ ha z1
  obtain ⟨n1, n2⟩ := IntOp.andi_eq_one.1 hn
  refine ⟨?_, fun k => ?_⟩
  · exact range_word (x2 z1) 1 72 (by norm_num) (by norm_num) n1 n2
  · obtain ⟨e1, e2⟩ := IntOp.andi_eq_one.1 (Host.reduce_andi_all _ _ _ _ _ hb (i72 k))
    exact below_word (x1 (i72 k)) 8 (by norm_num) e1 e2

end Cert.Kernel.Moe

end
-- ==== Proof.MoeFrame.lean ====
/- The launch: the tables the region runs at, the run of the whole program, and the frame. -/
module

public import proofs.«01_k».proof.Proof.MoeDat
public import proofs.«01_k».proof.Proof.MoeTables

@[expose] public section

set_option maxRecDepth 16384

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- What the launch memory must satisfy: the tables of every device in range. -/
def Routed : Prop :=
  ∀ c : Dev nD, (1 ≤ nuOf (m ((c : Thread nD τ).loc main_arg2)) ∧ nuOf (m ((c : Thread nD τ).loc main_arg2)) ≤ 72)
    ∧ ∀ k, ((m ((c : Thread nD τ).loc main_arg1) : S72.Idx → BitVec 32) (i72 k)).toNat < 8

/-- The tables the region runs at. -/
def tabs : pre0.Contents (Elt F) := fun k => V m (0 : Dev nD) (pre0.ref k)

variable {m}

theorem tabs_inRange (h : Routed m) : InRange (tabs m) where
  lo := by
    have h1 := (h 0).1.1
    unfold tabs
    rw [show V m 0 (pre0.ref 1) = _ from V_arg2 m 0]
    exact h1
  hi := by
    have h1 := (h 0).1.2
    unfold tabs
    rw [show V m 0 (pre0.ref 1) = _ from V_arg2 m 0]
    exact h1
  ex k := by
    have h1 := (h 0).1
    have h2 := (h 0).2
    unfold tabs
    rw [show V m 0 (pre0.ref 0) (i72 k) = _ from V_v13_at m 0 h1.1 h1.2 k]
    exact h2 _

/-- The tables, as ones the region may run at. -/
def adm (h : Routed m) : (pcfg0 (F := F)).Adm := ⟨tabs m, ok_of_inRange (tabs_inRange h)⟩

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v13) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point from what the launch hands over; -/
theorem phi_first (a : (pcfg0 (F := F)).Adm) (W : (c : Dev nD) → (b : Ref sig .tc) → Buf (Elt F) ((c : Thread nD τ).loc b)) (c : Dev nD) :
    iprop((Pipeline.ΦA spec0 c : sProp 𝕄) ∗ Pipeline.ΦT pre0 a.1 c) ⊢ (dats a W 0 c).Φ 0 := by
  unfold Pipeline.ΦA Pipeline.ΦT
  rw [prefHeld_eq, scopedRest0_eq, show (dats a W 0 c).Φ 0 = Phi a W c 0 (Nat.zero_le _) from rfl]
  unfold Phi
  iintro ⟨⟨⟨%f, HS⟩, HP⟩, HT0, HT1⟩
  isplitl [HS]
  · iexists f; isplitr; swap
    · iexact HS
    · ipureintro; intro h; exact absurd rfl h
  isplitl [HT0]
  · iexact HT0
  isplitl [HT1]
  · iexact HT1
  iexact HP

/-- and after the last it gives it back. -/
theorem phi_last (a : (pcfg0 (F := F)).Adm) (W : (c : Dev nD) → (b : Ref sig .tc) → Buf (Elt F) ((c : Thread nD τ).loc b)) (c : Dev nD) :
    (dats a W 0 c).Φ (Fin.last (cfg0 a).N) ⊢ (Pipeline.ΦA spec0 c : sProp 𝕄) := by
  unfold Pipeline.ΦA
  rw [scopedRest0_eq, show (dats a W 0 c).Φ (Fin.last (cfg0 a).N) = Phi a W c (cfg0 a).N le_rfl from rfl]
  unfold Phi
  iintro ⟨⟨%f, -, HS⟩, -, -, HP⟩
  isplitl [HS]
  · iexists f; iexact HS
  iexact HP

set_option backward.isDefEq.respectTransparency.types false in
set_option maxHeartbeats 4000000 in
/-- The run: from a memory with the tables in range every weakly fair execution ends, with each window's array at what the points
    wrote to it, every other buffer as the host operations left it, and every counter at zero. -/
theorem run_main (h : Routed m) (g : Dev nD → PrngReg) :
    θ_run (defs (F := F)) (onTc (τ := τ) (main (F := F))) ⟨m, fun _ => 0, g⟩ fun r =>
      Pipeline.FramePost (Pipeline.pin (pcfgs (F := F)) fun _ => adm h) (dats (adm h) (V m)) 0 (V m) r ∧ r.2.sem = fun _ => 0 :=
  Pipeline.θ_run_frameP_track_shared pcfgs (fun _ => adm h) (dats (adm h) (V m)) (0 : Fin 1) launch₀0 defs₀ Variants.none m g main
    (hbody := fun c => (body_obligation (adm h) (V m) (tabs_inRange h) c).loose)
    (hq := fun _ _ _ => rfl) (howed := fun _ _ => rfl) (V := V m)
    (hmain := Pipeline.hmainP_prefix pcfgs 0 defs₀ Variants.none m main hostOps0 hostOps0_sub
      ⟨rfl, rfl, rfl, rfl, rfl, rfl, rfl, rfl, rfl, rfl, rfl, rfl, rfl, rfl, rfl, rfl, rfl⟩ main_chain)
    (hA := fun _ _ => rfl)
    (hpf := fun c k => by rw [Subsingleton.elim c (0 : Dev nD)]; rfl)
    (hin := phi_first (adm h) (V m)) (hout := phi_last (adm h) (V m))
    (Q' := _) (hQ' := fun _ h => h)

/-- The frame: the arguments end as they began, and every counter at zero. -/
theorem frame_of_routed (h : Routed m) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c =>
      ⟨((hr.1 c).1 (0 : Fin 5)).trans (((dats (adm h) (V m) 0 c).arrAt_in (0 : Fin 5) rfl _).trans (V_arg0 m c)),
        ((hr.1 c).2 main_arg1 (Pipeline.mem_restRefs_of _ rfl (show ∀ w : Fin 5, (spec0 w).arr.view.ref ≠ main_arg1 by decide))).trans (V_arg1 m c),
        ((hr.1 c).2 main_arg2 (Pipeline.mem_restRefs_of _ rfl (show ∀ w : Fin 5, (spec0 w).arr.view.ref ≠ main_arg2 by decide))).trans (V_arg2 m c),
        ((hr.1 c).2 main_arg3 (Pipeline.mem_restRefs_of _ rfl (show ∀ w : Fin 5, (spec0 w).arr.view.ref ≠ main_arg3 by decide))).trans (V_arg3 m c),
        ((hr.1 c).2 main_arg4 (Pipeline.mem_restRefs_of _ rfl (show ∀ w : Fin 5, (spec0 w).arr.view.ref ≠ main_arg4 by decide))).trans (V_arg4 m c)⟩, hr.2⟩)
    (run_main h g)

end Cert.Kernel.Moe

end
-- ==== Proof.MoePoint.lean ====
/- What one point of the grid adds to the accumulator, read at an index over the extended reals. -/
module

public import proofs.«01_k».proof.Proof.Gen.Kernel
public import proofs.«01_k».proof.Proof.Gen.Kernel.Skeleton
public import Idealize.ShloMosaic.Lib.Pipeline.ValueKit
public import Idealize.ShloMosaic.Lib.IdealHost

@[expose] public section

set_option maxRecDepth 16384

noncomputable section

namespace Cert.Kernel.Moe

open Cert.Kernel Cert.Kernel.Gen
open Idealize.ShloMosaic
open Idealize.ShloMosaic.TcCoe Idealize.ShloMosaic.Tactic

/-- One hidden unit: the gate through SiLU, times the other projection. -/
def hidden (a b : EReal) : EReal := Ideal.div a (1 + Ideal.exp (-a)) * b

/-- One hidden unit's part of the feed-forward block of expert `E` on row `R`, at column `n`: rows `X`, the two projections side by side `W`,
    the projection back `D`. -/
def unitOf (X : S36864x1024.Idx → EReal) (W : S8x1024x7168.Idx → EReal) (D : S8x3584x1024.Idx → EReal) (E : Fin 8) (R : Fin 36864) (n : Fin 1024) (q : Fin 3584) : EReal :=
  hidden (∑ d : Fin 1024, X (ix2 R d) * W (ix3 E d ⟨q.val, by omega⟩)) (∑ d : Fin 1024, X (ix2 R d) * W (ix3 E d ⟨3584 + q.val, by omega⟩)) * D (ix3 E q n)

/-- The feed-forward block of expert `E` on row `R`, at column `n`. -/
def ffn (X : S36864x1024.Idx → EReal) (W : S8x1024x7168.Idx → EReal) (D : S8x3584x1024.Idx → EReal) (E : Fin 8) (R : Fin 36864) (n : Fin 1024) : EReal :=
  ∑ q : Fin 3584, unitOf X W D E R n q

theorem pay1_at (y : S512x1024.Idx) : k0_pay1 (F := Ideal) y = (0 : EReal) := by
  pointwise [k0_pay1]

theorem pay2_at (x0 : FVec Ideal S512x1024 .bf16) (x1 x2 : FVec Ideal S1x1024x512 .bf16) (z : FVec Ideal S512x1024 .f32) (x3 : FVec Ideal S1x512x1024 .bf16)
    (r : Fin 512) (n : Fin 1024) :
    k0_pay2 x0 x1 x2 z x3 (ix2 r n) = z (ix2 r n) + ∑ k : Fin 512, hidden (∑ d : Fin 1024, x0 (ix2 r d) * x1 (ix3 0 d k)) (∑ d : Fin 1024, x0 (ix2 r d) * x2 (ix3 0 d k)) * x3 (ix3 0 k n) := by
  pointwise [k0_pay2, hidden]
  simp only [zero_sub]

end Cert.Kernel.Moe

end
-- ==== Proof.MoeBlocks.lean ====
/- The blocks the kernel reads at a point, and the accumulator and the output after it, over the extended reals. -/
module

public import proofs.«01_k».proof.Proof.MoeFrame
public import proofs.«01_k».proof.Proof.MoePoint

@[expose] public section

set_option maxRecDepth 16384

noncomputable section

namespace Cert.Kernel.Moe

open Cert.Kernel Cert.Kernel.Gen
open Idealize.ShloMosaic
open Idealize.ShloMosaic.TcCoe Idealize.ShloMosaic.Tactic

variable (a : (pcfg0 (F := Ideal)).Adm) (V : (c : Dev nD) → (b : Ref sig .tc) → Buf (Elt Ideal) ((c : Thread nD τ).loc b))

theorem widx (hr : InRange a.1) (t : Fin (cfg0 a).N) (ht : t.val / 7 < nu a) :
    ((cfg0 a).win (0 : Fin 5)).index t = ![t.val / 7, 0]
    ∧ ((cfg0 a).win (1 : Fin 5)).index t = ![(a.1 0 (i72 (crd a t 0))).toNat, 0, t.val % 7]
    ∧ ((cfg0 a).win (2 : Fin 5)).index t = ![(a.1 0 (i72 (crd a t 0))).toNat, 0, 7 + t.val % 7]
    ∧ ((cfg0 a).win (3 : Fin 5)).index t = ![(a.1 0 (i72 (crd a t 0))).toNat, t.val % 7, 0] := by
  have hc := coords_val t
  have hk : tileOf a.1 (crd a t) = t.val % 7 := by
    unfold tileOf
    rw [if_pos (by show (grid0.coords t 0).val < _; rw [hc.1]; exact ht)]; exact hc.2
  refine ⟨(tr0 hr (crd a t)).trans ?_, (tr1 hr (crd a t)).trans ?_, (tr2 hr (crd a t)).trans ?_, (tr3 hr (crd a t)).trans ?_⟩
  · rw [show ((crd a t) 0).val = t.val / 7 from hc.1, show min (t.val / 7) (nuOf (a.1 1) - 1) = t.val / 7 from Nat.min_eq_left (by have : t.val / 7 < nuOf (a.1 1) := ht; omega)]
  · rw [hk]
  · rw [hk]
  · rw [hk]

theorem iblk0_at (hr : InRange a.1) (c : Dev nD) (t : Fin (cfg0 a).N) (ht : t.val / 7 < nu a) (r : Fin 512) (d : Fin 1024) (R : Fin 36864) (hR : R.val = 512 * (t.val / 7) + r.val) :
    (iblk a V c (0 : Fin 5) t : FVec Ideal S512x1024 .bf16) (ix2 r d) = (V c main_arg0 : FVec Ideal S36864x1024 .bf16) (ix2 R d) := by
  have e := (widx a hr t ht).1
  blk_ext [iblk, e]

theorem iblk1_at (hr : InRange a.1) (c : Dev nD) (t : Fin (cfg0 a).N) (ht : t.val / 7 < nu a) (d : Fin 1024) (k : Fin 512) (E : Fin 8) (q : Fin 7168)
    (hE : E.val = (a.1 0 (i72 (crd a t 0))).toNat) (hq : q.val = t.val % 7 * 512 + k.val) :
    (iblk a V c (1 : Fin 5) t : FVec Ideal S1x1024x512 .bf16) (ix3 0 d k) = (V c main_v0 : FVec Ideal S8x1024x7168 .bf16) (ix3 E d q) := by
  have e := (widx a hr t ht).2.1
  blk_ext [iblk, e]

theorem iblk2_at (hr : InRange a.1) (c : Dev nD) (t : Fin (cfg0 a).N) (ht : t.val / 7 < nu a) (d : Fin 1024) (k : Fin 512) (E : Fin 8) (q : Fin 7168)
    (hE : E.val = (a.1 0 (i72 (crd a t 0))).toNat) (hq : q.val = 3584 + (t.val % 7 * 512 + k.val)) :
    (iblk a V c (2 : Fin 5) t : FVec Ideal S1x1024x512 .bf16) (ix3 0 d k) = (V c main_v0 : FVec Ideal S8x1024x7168 .bf16) (ix3 E d q) := by
  have e := (widx a hr t ht).2.2.1
  blk_ext [iblk, e]

theorem iblk3_at (hr : InRange a.1) (c : Dev nD) (t : Fin (cfg0 a).N) (ht : t.val / 7 < nu a) (k : Fin 512) (n : Fin 1024) (E : Fin 8) (q : Fin 3584)
    (hE : E.val = (a.1 0 (i72 (crd a t 0))).toNat) (hq : q.val = t.val % 7 * 512 + k.val) :
    (iblk a V c (3 : Fin 5) t : FVec Ideal S1x512x1024 .bf16) (ix3 0 k n) = (V c main_v1 : FVec Ideal S8x3584x1024 .bf16) (ix3 E q n) := by
  have e := (widx a hr t ht).2.2.2
  blk_ext [iblk, e]

/-- One hidden unit's part, over the arrays the region reads. -/
abbrev unit (c : Dev nD) (E : Fin 8) (R : Fin 36864) (n : Fin 1024) (q : Fin 3584) : EReal :=
  unitOf (V c main_arg0) (V c main_v0) (V c main_v1) E R n q

/-- The units of one column tile. -/
def tilePart (c : Dev nD) (E : Fin 8) (R : Fin 36864) (n : Fin 1024) (s : ℕ) : EReal :=
  if hs : s < 7 then ∑ k : Fin 512, unit V c E R n ⟨s * 512 + k.val, by omega⟩ else 0

/-- What the accumulator's step at a point of a used block does at an index. -/
theorem accStep_at (hr : InRange a.1) (c : Dev nD) (t : Fin (cfg0 a).N) (ht : t.val / 7 < nu a) (x : FVec Ideal S512x1024 .f32) (r : Fin 512) (n : Fin 1024)
    (E : Fin 8) (R : Fin 36864) (hE : E.val = (a.1 0 (i72 (crd a t 0))).toNat) (hR : R.val = 512 * (t.val / 7) + r.val) :
    accStep a V c t x (ix2 r n) = (if t.val % 7 = 0 then (0 : EReal) else x (ix2 r n)) + tilePart V c E R n (t.val % 7) := by
  unfold accStep
  refine (pay2_at (iblk a V c (0 : Fin 5) t) (iblk a V c (1 : Fin 5) t) (iblk a V c (2 : Fin 5) t) _ (iblk a V c (3 : Fin 5) t) r n).trans ?_
  refine congrArg₂ (fun u v : EReal => u + v) ?_ ?_
  · split
    · exact pay1_at _
    · rfl
  · unfold tilePart
    rw [dif_pos (Nat.mod_lt _ (by decide))]
    refine Finset.sum_congr rfl fun k _ => ?_
    unfold unit unitOf
    refine congrArg₂ (fun u v : EReal => u * v) (congrArg₂ hidden (Finset.sum_congr rfl fun d _ => congrArg₂ (fun u v : EReal => u * v) ?_ ?_) (Finset.sum_congr rfl fun d _ => congrArg₂ (fun u v : EReal => u * v) ?_ ?_)) ?_
    · exact iblk0_at a V hr c t ht r d R hR
    · exact iblk1_at a V hr c t ht d k E _ hE rfl
    · exact iblk0_at a V hr c t ht r d R hR
    · exact iblk2_at a V hr c t ht d k E _ hE rfl
    · exact iblk3_at a V hr c t ht k n E _ hE rfl

theorem traj_two (c : Dev nD) (t : Fin (cfg0 a).N) (ht : t.val / 7 < nu a) : (traj a V c t.val t.isLt).2 = accStep a V c t (prev a V c t.val t.isLt.le).2 := by
  rw [traj_eq]; unfold step; rw [if_pos ht]

theorem traj_one (c : Dev nD) (t : Fin (cfg0 a).N) (ht : t.val / 7 < nu a) (h6 : t.val % 7 = 6) : (traj a V c t.val t.isLt).1 = (traj a V c t.val t.isLt).2 := by
  rw [traj_eq]; unfold step; rw [if_pos ht, if_pos h6]

theorem expert_eq (b : Fin 72) (t : Fin (cfg0 a).N) (hb : t.val / 7 = b.val) : i72 (crd a t 0) = i72 b := by
  have hc := (coords_val t).1
  exact congrArg i72 (Fin.ext (hc.trans hb))

/-- The accumulator after the points of a used block up to column tile `s`. -/
theorem acc_at (hr : InRange a.1) (c : Dev nD) (b : Fin 72) (hb : b.val < nu a) (r : Fin 512) (n : Fin 1024) (E : Fin 8) (R : Fin 36864)
    (hE : E.val = (a.1 0 (i72 b)).toNat) (hR : R.val = 512 * b.val + r.val) :
    ∀ (s : ℕ) (hs : s < 7) (hn : 7 * b.val + s < (cfg0 a).N), (traj a V c (7 * b.val + s) hn).2 (ix2 r n) = ∑ j ∈ Finset.range (s + 1), tilePart V c E R n j := by
  intro s
  induction s with
  | zero =>
    intro hs hn
    have hd : (7 * b.val + 0) / 7 = b.val := by omega
    have hm : (7 * b.val + 0) % 7 = 0 := by omega
    have h1 := traj_two a V c ⟨7 * b.val + 0, hn⟩ (by rw [hd]; exact hb)
    have h2 := accStep_at a V hr c ⟨7 * b.val + 0, hn⟩ (by rw [hd]; exact hb) (prev a V c (7 * b.val + 0) hn.le).2 r n E R (by rw [expert_eq a b _ hd]; exact hE) (by rw [hd]; exact hR)
    rw [if_pos hm, zero_add, hm] at h2
    rw [Finset.sum_range_one]
    exact (congrFun h1 _).trans h2
  | succ s ih =>
    intro hs hn
    have hd : (7 * b.val + (s + 1)) / 7 = b.val := by omega
    have hm : (7 * b.val + (s + 1)) % 7 = s + 1 := by omega
    have h1 := traj_two a V c ⟨7 * b.val + (s + 1), hn⟩ (by rw [hd]; exact hb)
    have h2 := accStep_at a V hr c ⟨7 * b.val + (s + 1), hn⟩ (by rw [hd]; exact hb) (prev a V c (7 * b.val + (s + 1)) hn.le).2 r n E R (by rw [expert_eq a b _ hd]; exact hE) (by rw [hd]; exact hR)
    rw [if_neg (by rw [hm]; exact Nat.succ_ne_zero s), hm] at h2
    have h3 := congrFun (congrArg Prod.snd (prev_succ a V c ⟨7 * b.val + s, Nat.lt_of_succ_lt hn⟩)) (ix2 r n)
    rw [Finset.sum_range_succ, ← ih (by omega) (Nat.lt_of_succ_lt hn), ← h3]
    exact (congrFun h1 _).trans h2

/-- After the last used block nothing changes. -/
theorem traj_tail (c : Dev nD) (n0 : ℕ) (h0 : 7 * nu a ≤ n0 + 1) : ∀ (k : ℕ) (hn : n0 + k < (cfg0 a).N), traj a V c (n0 + k) hn = traj a V c n0 (by omega) := by
  intro k
  induction k with
  | zero => intro hn; rfl
  | succ k ih =>
    intro hn
    rw [← ih (by omega)]
    refine (traj_eq a V c ⟨n0 + (k + 1), hn⟩).trans ?_
    unfold step
    rw [if_neg (by show ¬(n0 + (k + 1)) / 7 < nu a; omega)]
    exact prev_succ a V c ⟨n0 + k, by omega⟩

/-- What a written-back block holds: the whole feed-forward block of its expert on its rows. -/
theorem flushed_at (hr : InRange a.1) (c : Dev nD) (t : Fin (cfg0 a).N) (hf : t.val = 503 ∨ (t.val % 7 = 6 ∧ t.val / 7 + 1 < nu a)) (b : Fin 72) (hb : b.val = min (t.val / 7) (nu a - 1))
    (r : Fin 512) (n : Fin 1024) (E : Fin 8) (R : Fin 36864) (hE : E.val = (a.1 0 (i72 b)).toNat) (hR : R.val = 512 * b.val + r.val) :
    (traj a V c t.val t.isLt).1 (ix2 r n) = ffn (V c main_arg0) (V c main_v0) (V c main_v1) E R n := by
  have hlo : 1 ≤ nu a := hr.lo
  have hhi : nu a ≤ 72 := hr.hi
  have hbn : b.val < nu a := by omega
  have hN := N_eq a
  have h6 : 7 * b.val + 6 < (cfg0 a).N := by omega
  have h1 : traj a V c t.val t.isLt = traj a V c (7 * b.val + 6) h6 := by
    rcases hf with h | ⟨h, h'⟩
    · have h2 := traj_tail a V c (7 * b.val + 6) (by omega) (503 - (7 * b.val + 6)) (by omega)
      refine Eq.trans ?_ h2
      congr 1; omega
    · congr 1; omega
  rw [h1, traj_one a V c ⟨7 * b.val + 6, h6⟩ (by show (7 * b.val + 6) / 7 < nu a; omega) (by show (7 * b.val + 6) % 7 = 6; omega)]
  refine (acc_at a V hr c b hbn r n E R hE hR 6 (by decide) h6).trans ?_
  rw [Finset.sum_range]
  refine Eq.trans (Finset.sum_congr rfl fun s _ => dif_pos s.isLt) ?_
  exact Fin.sum_mul_add_congr (S := 7) (n := 512) (fun s k hl => rfl)

end Cert.Kernel.Moe

end
-- ==== Proof.MoeRef.lean ====
/- The reference read at an index: the feed-forward block of the row's expert. -/
module

public import proofs.«01_k».proof.Proof.MoePoint
public import proofs.«01_k».proof.Proof.Gen.ReferenceIdeal.Read

@[expose] public section

set_option maxRecDepth 16384

noncomputable section

namespace Cert.Kernel.Moe

open Idealize.ShloMosaic
open Idealize.ShloMosaic.TcCoe Idealize.ShloMosaic.Tactic

section Slabs
variable {α : Type} {N A B R w : Nat}

/-- The dimension numbers of a gather of whole matrices by their number. -/
abbrev slabDims (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Such a gather, read at an index: the matrix the table lists there, its number read signed and clamped into range. -/
theorem gather_slabs (hN : 0 < N) (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (b : Fin R) (p : Fin A) (q : Fin B) :
    Host.gather (slabDims wf) x idx (ix3 b p q) = x (ix3 ⟨min (idx (ix2 b 0)).toInt.toNat (N - 1), by omega⟩ p q) := by
  unfold Host.gather
  congr 1
  funext a
  refine Fin.ext ?_
  show (slabDims wf).start (ix3 b p q) idx a + (slabDims wf).batchCoord (ix3 b p q) a + (slabDims wf).offCoord (ix3 b p q) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil, Nat.add_zero]
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (slabDims wf).startIndexMap from List.mem_singleton.mpr rfl)]
    have hsi : (slabDims wf).siIdx (ix3 b p q) ⟨List.idxOf (0 : Fin 3) (slabDims wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  · unfold GatherDims.start
    rw [dif_neg (show (1 : Fin 3) ∉ [0] by decide), Nat.zero_add]
    rfl
  · unfold GatherDims.start
    rw [dif_neg (show (2 : Fin 3) ∉ [0] by decide), Nat.zero_add]
    rfl

end Slabs

open Cert.ReferenceIdeal Cert.ReferenceIdeal.Read

variable (x0 : FVec Ideal S36864x1024 .bf16) (x1 : IVec S72 32) (x3 : FVec Ideal S8x1024x7168 .f32) (x4 : FVec Ideal S8x3584x1024 .f32)

/-- A listed expert's word, wrapped as the indexing does, is itself. -/
theorem wrap_word : ∀ e : Fin 8, (Scalar.select (IntOp.cmpi .slt (BitVec.ofNat 32 e.val) 0#32) (IntOp.addi (BitVec.ofNat 32 e.val) 8#32) (BitVec.ofNat 32 e.val)).toInt.toNat = e.val := by
  decide +kernel

theorem v7_at (b : Fin 72) (i : S72.Idx) (hi : (i 0).val = b.val) (h : (x1 i).toNat < 8) : (val_main_v7 (F := Ideal) x1 (ix2 b 0)).toInt.toNat = (x1 i).toNat := by
  rw [val_main_v7_apply, val_main_v6_apply, val_main_v5_apply, val_main_v3_apply, val_main_v4_apply, val_main_v2_apply]
  have e : idx_main_v7 (ix2 b 0) = i := by
    funext a; fin_cases a; exact Fin.ext hi.symm
  rw [e]
  have hw := wrap_word ⟨(x1 i).toNat, h⟩
  rw [show BitVec.ofNat 32 (x1 i).toNat = x1 i from by rw [BitVec.ofNat_toNat, BitVec.setWidth_eq]] at hw
  exact hw

theorem v19_at (b : Fin 72) (i : S72.Idx) (hi : (i 0).val = b.val) (h : (x1 i).toNat < 8) : (val_main_v19 (F := Ideal) x1 (ix2 b 0)).toInt.toNat = (x1 i).toNat :=
  v7_at x1 b i hi h

theorem v8_at (b : Fin 72) (i : S72.Idx) (hi : (i 0).val = b.val) (h : (x1 i).toNat < 8) (p : Fin 1024) (q : Fin 7168) :
    val_main_v8 (F := Ideal) x1 x3 (ix3 b p q) = x3 (ix3 ⟨(x1 i).toNat, h⟩ p q) := by
  refine (gather_slabs (by decide) _ x3 (val_main_v7 (F := Ideal) x1) b p q).trans ?_
  congr 2
  refine Fin.ext ?_
  show min _ 7 = _
  rw [v7_at x1 b i hi h]
  exact Nat.min_eq_left (by omega)

theorem v20_at (b : Fin 72) (i : S72.Idx) (hi : (i 0).val = b.val) (h : (x1 i).toNat < 8) (p : Fin 3584) (q : Fin 1024) :
    val_main_v20 (F := Ideal) x1 x4 (ix3 b p q) = x4 (ix3 ⟨(x1 i).toNat, h⟩ p q) := by
  refine (gather_slabs (by decide) _ x4 (val_main_v19 (F := Ideal) x1) b p q).trans ?_
  congr 2
  refine Fin.ext ?_
  show min _ 7 = _
  rw [v19_at x1 b i hi h]
  exact Nat.min_eq_left (by omega)

/-- The row a block's row is. -/
abbrev rowOf (b : Fin 72) (r : Fin 512) : Fin 36864 := ⟨512 * b.val + r.val, by omega⟩

theorem v9_at (b : Fin 72) (i : S72.Idx) (hi : (i 0).val = b.val) (h : (x1 i).toNat < 8) (r : Fin 512) (q : Fin 7168) :
    val_main_v9 (F := Ideal) x0 x1 x3 (ix3 b r q) = ∑ d : Fin 1024, x0 (ix2 (rowOf b r) d) * x3 (ix3 ⟨(x1 i).toNat, h⟩ d q) := by
  rw [val_main_v9_apply]
  refine Finset.sum_congr rfl fun d _ => congrArg₂ (fun u v : EReal => u * v) ?_ ?_
  · rw [val_main_v1_apply, val_main_v0_apply]
    refine congrArg x0 (funext fun a => Fin.ext ?_)
    fin_cases a
    · show ((b.val * 512 + r.val) * 1024 + d.val) / 1024 = 512 * b.val + r.val; omega
    · show ((b.val * 512 + r.val) * 1024 + d.val) % 1024 = d.val; omega
  · refine Eq.trans ?_ (v8_at x1 x3 b i hi h d q)
    refine congrArg (val_main_v8 (F := Ideal) x1 x3) (funext fun a => Fin.ext ?_)
    fin_cases a <;> rfl

theorem one_add_exp_ne_zero (a : EReal) : 1 + Ideal.exp (-a) ≠ 0 := by
  have h : (0 : EReal) ≤ Ideal.exp (-a) := by
    induction a using EReal.rec with
    | bot => exact le_top
    | top => exact le_refl (0 : EReal)
    | coe r => exact EReal.coe_nonneg.mpr (Real.exp_pos (-r)).le
  exact ne_of_gt (lt_of_lt_of_le zero_lt_one (le_add_of_nonneg_right h))

/-- The reference's SiLU is the gate times a reciprocal; the kernel's divides. -/
theorem silu_eq (a : EReal) : a * Ideal.div (Ideal.ofBits .f32 0x3F800000#32) (Ideal.ofBits .f32 0x3F800000#32 + Ideal.exp (-a)) = Ideal.div a (1 + Ideal.exp (-a)) := by
  rw [Ideal.ofBits_one_f32]
  exact Ideal.mul_one_div (one_add_exp_ne_zero a)

theorem v13_at (b : Fin 72) (i : S72.Idx) (hi : (i 0).val = b.val) (h : (x1 i).toNat < 8) (r : Fin 512) (q : Fin 3584) :
    val_main_v13 (F := Ideal) x0 x1 x3 (ix3 b r q) = hidden (∑ d : Fin 1024, x0 (ix2 (rowOf b r) d) * x3 (ix3 ⟨(x1 i).toNat, h⟩ d ⟨q.val, by omega⟩))
      (∑ d : Fin 1024, x0 (ix2 (rowOf b r) d) * x3 (ix3 ⟨(x1 i).toNat, h⟩ d ⟨3584 + q.val, by omega⟩)) := by
  have e1 := v9_at x0 x1 x3 b i hi h r ⟨q.val, by omega⟩
  have e2 := v9_at x0 x1 x3 b i hi h r ⟨3584 + q.val, by omega⟩
  have i1 : idx_main_v10 (ix3 b r q) = ix3 b r ⟨q.val, by omega⟩ := by funext a; fin_cases a <;> rfl
  have i2 : idx_main_v11 (ix3 b r q) = ix3 b r ⟨3584 + q.val, by omega⟩ := by funext a; fin_cases a <;> rfl
  have g1 := val_main_v10_apply (F := Ideal) x0 x1 x3 (ix3 b r q)
  have g2 := val_main_v11_apply (F := Ideal) x0 x1 x3 (ix3 b r q)
  rw [i1, e1] at g1
  rw [i2, e2] at g2
  rw [val_main_v13_apply, val_main_v12_apply, val_main_call0_v5_apply, val_main_call0_v4_apply, val_main_call0_v3_apply, val_main_call0_v2_apply,
    val_main_call0_v1_apply, val_main_call0_v0_apply, g1, g2]
  refine congrArg (fun u : EReal => u * _) ?_
  exact silu_eq _

/-- The reference at row `r` of block `b` is the feed-forward block of the block's expert on that row. -/
theorem reference_at (b : Fin 72) (i : S72.Idx) (hi : (i 0).val = b.val) (h : (x1 i).toNat < 8) (r : Fin 512) (n : Fin 1024) :
    val_main_v22 (F := Ideal) x0 x1 x3 x4 (ix2 (rowOf b r) n) = ffn x0 x3 x4 ⟨(x1 i).toNat, h⟩ (rowOf b r) n := by
  rw [val_main_v22_apply]
  have e : idx_main_v22 (ix2 (rowOf b r) n) = ix3 b r n := by
    funext a; refine Fin.ext ?_
    fin_cases a
    · show ((512 * b.val + r.val) * 1024 + n.val) / 524288 = b.val; omega
    · show ((512 * b.val + r.val) * 1024 + n.val) / 1024 % 512 = r.val; omega
    · show ((512 * b.val + r.val) * 1024 + n.val) % 1024 = n.val; omega
  rw [e, val_main_v21_apply]
  refine Finset.sum_congr rfl fun q _ => congrArg₂ (fun u v : EReal => u * v) ?_ ?_
  · refine Eq.trans (congrArg (val_main_v13 (F := Ideal) x0 x1 x3) (funext fun a => Fin.ext ?_)) (v13_at x0 x1 x3 b i hi h r q)
    fin_cases a <;> rfl
  · refine Eq.trans (congrArg (val_main_v20 (F := Ideal) x1 x4) (funext fun a => Fin.ext ?_)) (v20_at x1 x4 b i hi h q n)
    fin_cases a <;> rfl

end Cert.Kernel.Moe

end
-- ==== Proof.MoeMask.lean ====
/- The mask of the value claim: a row it keeps is a row of a used block. -/
module

public import proofs.«01_k».proof.Proof.MoeGrid
public import proofs.«01_k».proof.Proof.Gen.On_used_rows
public import Idealize.ShloMosaic.Lib.Pipeline.ValueKit

@[expose] public section

set_option maxRecDepth 16384

noncomputable section

namespace Cert.Kernel.Moe

open Idealize.ShloMosaic
open Idealize.ShloMosaic.TcCoe Idealize.ShloMosaic.Tactic

/-- The sign of a word, as a word. -/
def sgn (a : BitVec 32) : BitVec 32 := if a = 0 then 0 else if a.msb then -1 else 1

/-- The floor division by 512 as the mask writes it. -/
def div512 (a : BitVec 32) : BitVec 32 :=
  Scalar.select (IntOp.andi (IntOp.cmpi .ne (sgn a) (sgn 512#32)) (IntOp.cmpi .ne (IntOp.remsi .host a 512#32) 0#32))
    (IntOp.subi (IntOp.divsi .host a 512#32) 1#32) (IntOp.divsi .host a 512#32)

theorem div512_word : ∀ R : Fin 36864, div512 (BitVec.ofNat 32 R.val) = BitVec.ofNat 32 (R.val / 512) := by decide +kernel

theorem used_of_mask (x0 : FVec Ideal S36864x1024 .bf16) (x1 : IVec S72 32) (x2 : IVec S1 32) (x3 : FVec Ideal S8x1024x7168 .f32) (x4 : FVec Ideal S8x3584x1024 .f32)
    (h72 : nuOf x2 ≤ 72) (R : Fin 36864) (n : Fin 1024) (h : Cert.On_used_rows.fn (F := Ideal) x0 x1 x2 x3 x4 (ix2 R n) = 1#1) : R.val / 512 < nuOf x2 := by
  have h1 : IntOp.cmpi .slt (div512 (BitVec.ofNat 32 R.val)) (x2 z1) = 1#1 := by
    have h0 : ∃ z, IntOp.cmpi .slt (div512 (BitVec.ofNat 32 R.val)) (x2 z) = 1#1 := ⟨_, h⟩
    obtain ⟨z, hz⟩ := h0
    rwa [idx1_eq z] at hz
  rw [div512_word] at h1
  have h2 := slt_word ⟨R.val / 512, by omega⟩ ⟨nuOf x2, by omega⟩
  rw [← word1 x2 z1] at h2
  have h3 := h2.symm.trans h1
  by_contra hc
  rw [if_neg hc] at h3
  exact absurd h3 (by decide)

end Cert.Kernel.Moe

end
-- ==== Proof.MoeValue.lean ====
/- The output array after the run is the reference's result on the rows of the used blocks. -/
module

public import proofs.«01_k».proof.Proof.MoeBlocks
public import proofs.«01_k».proof.Proof.MoeRef
public import proofs.«01_k».proof.Proof.MoeMask

@[expose] public section

set_option maxRecDepth 16384

noncomputable section

namespace Cert.Kernel.Moe

open Cert.Kernel Cert.Kernel.Gen
open Idealize.ShloMosaic
open Idealize.ShloMosaic.TcCoe Idealize.ShloMosaic.Tactic

variable (m : (ℓ : Loc nD τ sig) → Buf (Elt Ideal) ℓ)

/-- The reference's result, over the kernel's arguments. -/
abbrev REF (c : Dev nD) : Buf (Elt Ideal) ((c : Thread nD τ).loc main_v14) :=
  Cert.ReferenceIdeal.Read.val_main_v22 (F := Ideal) (m ((c : Thread nD τ).loc main_arg0)) (m ((c : Thread nD τ).loc main_arg1)) (m ((c : Thread nD τ).loc main_arg3)) (m ((c : Thread nD τ).loc main_arg4))

theorem ix4_eq (a : (pcfg0 (F := Ideal)).Adm) (hr : InRange a.1) (t : Fin (cfg0 a).N) : ((cfg0 a).win (4 : Fin 5)).index t = ![min (t.val / 7) (nu a - 1), 0] := by
  rw [← (coords_val t).1]; exact tr4 hr (grid0.coords t)

/-- The written-back blocks are the used ones. -/
theorem covers (a : (pcfg0 (F := Ideal)).Adm) (hr : InRange a.1) : ((cfg0 a).win (4 : Fin 5)).CoversWhere (fun β => β (0 : Fin 2) < nu a) := by
  have hlo : 1 ≤ nu a := hr.lo
  have hhi : nu a ≤ 72 := hr.hi
  have hN := N_eq a
  refine ⟨fun x => ?_, fun t hf => ⟨?_, fun x => .inl ?_⟩, fun β hβ => ?_⟩
  · fin_cases x
    · show 0 < 512; decide
    · show 0 < 1024; decide
  · rw [ix4_eq a hr t]; show min _ _ < nu a; omega
  · rfl
  · have hb : (β (0 : Fin 2)).val < nu a := hβ
    have hz : (β (1 : Fin 2)).val = 0 := by
      have h1 : (β (1 : Fin 2)).val < (1024 + 1024 - 1) / 1024 := (β (1 : Fin 2)).isLt
      omega
    refine ⟨⟨if (β (0 : Fin 2)).val + 1 = nu a then 503 else 7 * (β (0 : Fin 2)).val + 6, by show _ < (cfg0 a).N; rw [hN]; split <;> omega⟩, fun x => ?_, ?_⟩
    · rw [ix4_eq a hr]
      fin_cases x
      · show min ((if (β (0 : Fin 2)).val + 1 = nu a then 503 else 7 * (β (0 : Fin 2)).val + 6) / 7) (nu a - 1) = (β (0 : Fin 2)).val
        split <;> omega
      · exact hz.symm
    · rw [flush4_iff a hr, decide_eq_true_eq]
      show (if (β (0 : Fin 2)).val + 1 = nu a then 503 else 7 * (β (0 : Fin 2)).val + 6) = 503
        ∨ (if (β (0 : Fin 2)).val + 1 = nu a then 503 else 7 * (β (0 : Fin 2)).val + 6) % 7 = 6 ∧ (if (β (0 : Fin 2)).val + 1 = nu a then 503 else 7 * (β (0 : Fin 2)).val + 6) / 7 + 1 < nu a
      split <;> omega

variable {m}

/-- The weights the region reads are the arguments: a cast is the identity here. -/
theorem V_v0I (c : Dev nD) : V m c main_v0 = m ((c : Thread nD τ).loc main_arg3) := V_v0 m c
theorem V_v1I (c : Dev nD) : V m c main_v1 = m ((c : Thread nD τ).loc main_arg4) := V_v1 m c

/-- The number of used blocks and the block's expert, from the arguments. -/
theorem nu_eq (h : Routed m) (c : Dev nD) : nu (adm h) = nuOf (m ((c : Thread nD τ).loc main_arg2)) := by
  rw [Subsingleton.elim c (0 : Dev nD)]
  exact congrArg nuOf (V_arg2 m 0)

theorem table_eq (h : Routed m) (c : Dev nD) (b : Fin 72) (hb : b.val < nu (adm h)) :
    (adm h).1 0 (i72 b) = (m ((c : Thread nD τ).loc main_arg1) : S72.Idx → BitVec 32) (i72 b) := by
  rw [nu_eq h c] at hb
  obtain rfl := Subsingleton.elim c (0 : Dev nD)
  refine (V_v13_at m 0 (h 0).1.1 (h 0).1.2 b).trans ?_
  exact congrArg (fun k => (m (((0 : Dev nD) : Thread nD τ).loc main_arg1) : S72.Idx → BitVec 32) (i72 k)) (Fin.ext (Nat.min_eq_left (by omega)))

/-- A written-back block holds the reference's rows. -/
theorem point (h : Routed m) (c : Dev nD) (t : Fin (cfg0 (adm h)).N) (hf : ((cfg0 (adm h)).win (4 : Fin 5)).flush t = true) (r : Fin 512) (n : Fin 1024) (b : Fin 72)
    (hb : b.val = min (t.val / 7) (nu (adm h) - 1)) :
    (traj (adm h) (V m) c t.val t.isLt).1 (ix2 r n) = REF m c (ix2 (rowOf b r) n) := by
  have hr : InRange (adm h).1 := tabs_inRange h
  have hlo : 1 ≤ nu (adm h) := hr.lo
  rw [flush4_iff (adm h) hr, decide_eq_true_eq] at hf
  have hx := table_eq h c b (by omega)
  have he : ((m ((c : Thread nD τ).loc main_arg1) : S72.Idx → BitVec 32) (i72 b)).toNat < 8 := (h c).2 b
  have h1 := flushed_at (adm h) (V m) hr c t hf b hb r n ⟨_, he⟩ (rowOf b r) (congrArg BitVec.toNat hx.symm) rfl
  have h2 := reference_at (m ((c : Thread nD τ).loc main_arg0)) (m ((c : Thread nD τ).loc main_arg1)) (m ((c : Thread nD τ).loc main_arg3)) (m ((c : Thread nD τ).loc main_arg4))
    b (i72 b) rfl he r n
  rw [h1, V_arg0, V_v0I, V_v1I]
  exact h2.symm

/-- The output array after the run, on the rows of the used blocks. -/
theorem final (h : Routed m) (c : Dev nD) (R : Fin 36864) (n : Fin 1024) (hR : R.val / 512 < nu (adm h)) :
    (dats (adm h) (V m) 0 c).arrAt (4 : Fin 5) (cfg0 (adm h)).N (ix2 R n) = REF m c (ix2 R n) := by
  have hr : InRange (adm h).1 := tabs_inRange h
  have h1 := (dats (adm h) (V m) 0 c).arrAt_apply_of_coversWhere (4 : Fin 5) (REF m c) (P := fun i => (i (0 : Fin 2)).val / 512 < nu (adm h)) (fun β => β (0 : Fin 2) < nu (adm h)) (covers (adm h) hr) (fun t hf y => ?_) (fun j => ?_) (ix2 R n)
  · exact h1.trans (if_pos hR)
  · have e := ix4_eq (adm h) hr t
    have hlo : 1 ≤ nu (adm h) := hr.lo
    have hhi : nu (adm h) ≤ 72 := hr.hi
    have hp := point h c t hf (y (0 : Fin 2)) (y (1 : Fin 2)) ⟨min (t.val / 7) (nu (adm h) - 1), by omega⟩ rfl
    rw [after_4]
    refine Eq.trans ?_ (hp.trans ?_)
    · refine congrArg (traj (adm h) (V m) c t.val t.isLt).1 (funext fun x => ?_)
      fin_cases x <;> rfl
    · refine congrArg (REF m c) ?_
      blk_ext [e]
  · exact Iff.rfl

open Idealize.SL.Sem in
/-- The run, with the output's value on the rows the mask keeps. -/
theorem run_value (h : Routed m) (g : Dev nD → PrngReg) :
    θ_run (defs (F := Ideal)) (onTc (τ := τ) (main (F := Ideal))) ⟨m, fun _ => 0, g⟩ fun r => ∀ c : Dev nD,
      (∀ i : (⟨2, ![36864, 1024]⟩ : Shape).Idx, (Cert.On_used_rows.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))) i = 1#1 →
          r.2.mem ((c : Thread nD τ).loc main_v14) i = REF m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ⟨fun i hi => ?_,
        ((hr.1 c).1 (0 : Fin 5)).trans (((dats (adm h) (V m) 0 c).arrAt_in (0 : Fin 5) rfl _).trans (V_arg0 m c)),
        ((hr.1 c).2 main_arg1 (Pipeline.mem_restRefs_of _ rfl (show ∀ w : Fin 5, (spec0 w).arr.view.ref ≠ main_arg1 by decide))).trans (V_arg1 m c),
        ((hr.1 c).2 main_arg2 (Pipeline.mem_restRefs_of _ rfl (show ∀ w : Fin 5, (spec0 w).arr.view.ref ≠ main_arg2 by decide))).trans (V_arg2 m c),
        ((hr.1 c).2 main_arg3 (Pipeline.mem_restRefs_of _ rfl (show ∀ w : Fin 5, (spec0 w).arr.view.ref ≠ main_arg3 by decide))).trans (V_arg3 m c),
        ((hr.1 c).2 main_arg4 (Pipeline.mem_restRefs_of _ rfl (show ∀ w : Fin 5, (spec0 w).arr.view.ref ≠ main_arg4 by decide))).trans (V_arg4 m c)⟩)
    (run_main h g)
  have hw := congrFun ((hr.1 c).1 (4 : Fin 5)) i
  have ei : i = ix2 (i 0) (i 1) := by
    funext x; fin_cases x <;> rfl
  rw [ei] at hi hw ⊢
  refine Eq.trans hw (final h c (i 0) (i 1) ?_)
  rw [nu_eq h c]
  exact used_of_mask _ _ _ _ _ (h c).1.2 (i 0) (i 1) hi

end Cert.Kernel.Moe

end
-- ==== Proof.MoeSame.lean ====
/- The call's idealization is the same program as the call: nothing in it was rewritten. So what is proved of the call over the extended reals
   is proved of its idealization. -/
module

public import proofs.«01_k».proof.Proof.Gen.Kernel
public import proofs.«01_k».proof.Proof.Gen.KernelIdeal
public import Idealize.ShloMosaic.PureOps.Ideal
public import Idealize.ShloMosaic.Init

@[expose] public section

set_option maxHeartbeats 1000000

noncomputable section

namespace Cert.KernelIdeal.Moe

open Idealize.ShloMosaic Idealize.SL.Sem

/-- The two programs declare the same buffers and counters. -/
theorem sig_eq : Cert.KernelIdeal.sig = Cert.Kernel.sig := rfl

/-- The regions are the same: tables, grid, windows, index maps and side condition. -/
theorem pcfg0_eq : Cert.KernelIdeal.pcfg0 (F := Ideal) = Cert.Kernel.pcfg0 (F := Ideal) := rfl

/-- The bodies are the same. -/
theorem body_eq : Cert.KernelIdeal.cc0_moe_experts (F := Ideal) = Cert.Kernel.cc0_moe_experts (F := Ideal) := rfl

/-- So are the tables of bodies, label by label. -/
theorem defs₀_eq : Cert.KernelIdeal.defs₀ (F := Ideal) = Cert.Kernel.defs₀ (F := Ideal) := by
  unfold Cert.KernelIdeal.defs₀ Cert.Kernel.defs₀
  refine congrArg (Defs.onTc (Λ := Cert.Kernel.Λ₀)) (funext fun l => funext fun a => ?_)
  obtain ⟨l, hl⟩ := l
  match l, hl, a with
  | 0, _, ⟨_, _⟩ => rfl
  | _ + 1, h, _ => exact absurd h (Nat.not_lt.2 (Nat.le_add_left _ _))

theorem defs_eq : Cert.KernelIdeal.defs (F := Ideal) = Cert.Kernel.defs (F := Ideal) :=
  congrArg (Pipeline.defs (Cert.Kernel.pcfgs (F := Ideal))) defs₀_eq

/-- And the callers. -/
theorem main_eq : Cert.KernelIdeal.main (F := Ideal) = Cert.Kernel.main (F := Ideal) := rfl

/-- What every run of the call ends in over the extended reals, every run of its idealization ends in. -/
theorem run_same (s) (Q) (h : θ_run (Cert.Kernel.defs (F := Ideal)) (onTc (τ := Cert.Kernel.τ) (Cert.Kernel.main (F := Ideal))) s Q) :
    θ_run (Cert.KernelIdeal.defs (F := Ideal)) (onTc (τ := Cert.KernelIdeal.τ) (Cert.KernelIdeal.main (F := Ideal))) s Q := by
  rw [defs_eq, main_eq]
  exact h

end Cert.KernelIdeal.Moe

end
-- ==== Proof.NormMod.lean ====
/- A row normalised by its root mean square, weighted and modulated, over the extended reals. -/
module

public import Idealize.ShloMosaic.Lib.Pipeline.ValueKit
public import Idealize.ShloMosaic.Lib.IdealHost

@[expose] public section

noncomputable section

namespace Cert.Trunk

open Idealize.ShloMosaic

/-- The reciprocal of a row's root mean square, with the small constant under the root. -/
def invRms (x : Fin 1024 → EReal) : EReal :=
  Ideal.rsqrt (Ideal.div (∑ e : Fin 1024, x e * x e) (Ideal.ofBits .f32 0x44800000#32) + Ideal.ofBits .f32 0x358637BD#32)

/-- One element `v` of row `x`, normalised, times its weight and its scale, plus its shift. -/
def modulate (x : Fin 1024 → EReal) (v w sc sh : EReal) : EReal := v * invRms x * w * (Ideal.ofBits .f32 0x3F800000#32 + sc) + sh

/-- Row `R` of `X` normalised and modulated, at column `d`: weights `nw`, scales and shifts of the row's sequence. -/
def normMod (X : (⟨2, ![16384, 1024]⟩ : Shape).Idx → EReal) (nw : (⟨1, ![1024]⟩ : Shape).Idx → EReal) (sc sh : (⟨3, ![2, 1, 1024]⟩ : Shape).Idx → EReal)
    (R : Fin 16384) (d : Fin 1024) : EReal :=
  modulate (fun e => X (ix2 R e)) (X (ix2 R d)) (nw (ix1 d)) (sc (ix3 ⟨R.val / 8192, by omega⟩ 0 d)) (sh (ix3 ⟨R.val / 8192, by omega⟩ 0 d))

/-- The same for the sample: row `R` is position `R % 4` of sequence `R / 4`. -/
def normModSample (X : (⟨2, ![128, 1024]⟩ : Shape).Idx → EReal) (nw : (⟨1, ![1024]⟩ : Shape).Idx → EReal) (sc sh : (⟨2, ![32, 1024]⟩ : Shape).Idx → EReal)
    (R : Fin 128) (d : Fin 1024) : EReal :=
  modulate (fun e => X (ix2 R e)) (X (ix2 R d)) (nw (ix1 d)) (sc (ix2 ⟨R.val / 4, by omega⟩ d)) (sh (ix2 ⟨R.val / 4, by omega⟩ d))

end Cert.Trunk

end
-- ==== Proof.FfnRef.lean ====
/- The dense feed-forward block: the reference read at an index, and what the kernel's points compute, over the extended reals. -/
module

public import proofs.«01_k».proof.Proof.Gen.Kernel2Ideal.Skeleton
public import proofs.«01_k».proof.Proof.Gen.Reference2Ideal.Read
public import proofs.«01_k».proof.Proof.MoeRef
public import proofs.«01_k».proof.Proof.NormMod

@[expose] public section

set_option maxRecDepth 16384

noncomputable section

namespace Cert.Kernel2Ideal.Ffn

open Idealize.ShloMosaic
open Idealize.ShloMosaic.TcCoe Idealize.ShloMosaic.Tactic
open Cert.Trunk
open Cert.Kernel.Moe (silu_eq)

section Reference
open Cert.Reference2Ideal Cert.Reference2Ideal.Read

variable (x0 : FVec Ideal S16384x1024 .f32) (x1 : FVec Ideal S1024 .f32) (x2 x3 x4 : FVec Ideal S2x1x1024 .f32) (x5 : FVec Ideal S1024x5632 .f32)
  (x6 : FVec Ideal S2816x1024 .f32)

/-- One hidden unit's part of the block on row `R`, at column `n`. -/
def unit (x0 : S16384x1024.Idx → EReal) (x1 : S1024.Idx → EReal) (x2 x3 : S2x1x1024.Idx → EReal) (x5 : S1024x5632.Idx → EReal) (x6 : S2816x1024.Idx → EReal)
    (R : Fin 16384) (n : Fin 1024) (q : Fin 2816) : EReal :=
  Kernel.Moe.hidden (∑ d : Fin 1024, normMod x0 x1 x2 x3 R d * x5 (ix2 d ⟨q.val, by omega⟩)) (∑ d : Fin 1024, normMod x0 x1 x2 x3 R d * x5 (ix2 d ⟨2816 + q.val, by omega⟩)) * x6 (ix2 q n)

/-- Row `s` of sequence `b`, among all the rows. -/
abbrev seqRow (b : Fin 2) (s : Fin 8192) : Fin 16384 := ⟨b.val * 8192 + s.val, by omega⟩

theorem v0_at (b : Fin 2) (s : Fin 8192) (d : Fin 1024) : val_main_v0 (F := Ideal) x0 (ix3 b s d) = x0 (ix2 (seqRow b s) d) := by
  rw [val_main_v0_apply]
  blk_ext []

theorem v2_at (b : Fin 2) (s : Fin 8192) : val_main_v2 (F := Ideal) x0 (ix2 b s) = ∑ e : Fin 1024, x0 (ix2 (seqRow b s) e) * x0 (ix2 (seqRow b s) e) := by
  rw [val_main_v2_apply, val_main_cst_apply]
  refine Eq.trans (congrArg (fun u : EReal => u + _) Ideal.ofBits_zero_f32) ?_
  refine (zero_add _).trans (Finset.sum_congr rfl fun e _ => ?_)
  have e1 : idx_main_v2 (ix2 b s) e = ix3 b s e := by funext a; fin_cases a <;> rfl
  rw [e1, val_main_v1_apply, v0_at]
  rfl

theorem v8_at (b : Fin 2) (s : Fin 8192) : val_main_v8 (F := Ideal) x0 (ix3 b s 0) = invRms (fun e => x0 (ix2 (seqRow b s) e)) := by
  have e1 : idx_main_v3 (ix3 b s 0) = ix2 b s := by funext a; fin_cases a <;> rfl
  rw [val_main_v8_apply, val_main_v7_apply, val_main_v6_apply, val_main_v5_apply, val_main_v4_apply, val_main_v3_apply, e1, v2_at]
  rfl

/-- The reference's normalised and modulated row. -/
theorem v19_at (b : Fin 2) (s : Fin 8192) (d : Fin 1024) : val_main_v19 (F := Ideal) x0 x1 x2 x3 (ix3 b s d) = normMod x0 x1 x2 x3 (seqRow b s) d := by
  have e9 : idx_main_v9 (ix3 b s d) = ix3 b s 0 := by funext a; fin_cases a <;> rfl
  have e12 : idx_main_v11 (idx_main_v12 (ix3 b s d)) = ix1 d := by funext a; fin_cases a; rfl
  have e16 : idx_main_v16 (ix3 b s d) = ix3 b 0 d := by funext a; fin_cases a <;> rfl
  have e18 : idx_main_v18 (ix3 b s d) = ix3 b 0 d := by funext a; fin_cases a <;> rfl
  have hb : (⟨(seqRow b s).val / 8192, by omega⟩ : Fin 2) = b := Fin.ext (show (b.val * 8192 + s.val) / 8192 = b.val by omega)
  rw [val_main_v19_apply, val_main_v17_apply, val_main_v13_apply, val_main_v10_apply, val_main_v9_apply, val_main_v12_apply, val_main_v11_apply, val_main_v16_apply,
    val_main_v15_apply, val_main_v18_apply, e9, e12, e16, e18, v8_at, v0_at]
  unfold normMod
  rw [hb]
  rfl

theorem v20_at (b : Fin 2) (s : Fin 8192) (q : Fin 5632) :
    val_main_v20 (F := Ideal) x0 x1 x2 x3 x5 (ix3 b s q) = ∑ d : Fin 1024, normMod x0 x1 x2 x3 (seqRow b s) d * x5 (ix2 d q) := by
  rw [val_main_v20_apply]
  refine Finset.sum_congr rfl fun d _ => congrArg₂ (fun u v : EReal => u * v) ?_ (congrArg x5 ?_)
  · refine Eq.trans (congrArg (val_main_v19 (F := Ideal) x0 x1 x2 x3) (funext fun a => Fin.ext ?_)) (v19_at x0 x1 x2 x3 b s d)
    fin_cases a <;> rfl
  · funext a; fin_cases a <;> rfl

theorem v24_at (b : Fin 2) (s : Fin 8192) (q : Fin 2816) :
    val_main_v24 (F := Ideal) x0 x1 x2 x3 x5 (ix3 b s q) = Kernel.Moe.hidden (∑ d : Fin 1024, normMod x0 x1 x2 x3 (seqRow b s) d * x5 (ix2 d ⟨q.val, by omega⟩))
      (∑ d : Fin 1024, normMod x0 x1 x2 x3 (seqRow b s) d * x5 (ix2 d ⟨2816 + q.val, by omega⟩)) := by
  have e1 := v20_at x0 x1 x2 x3 x5 b s ⟨q.val, by omega⟩
  have e2 := v20_at x0 x1 x2 x3 x5 b s ⟨2816 + q.val, by omega⟩
  have i1 : idx_main_v21 (ix3 b s q) = ix3 b s ⟨q.val, by omega⟩ := by funext a; fin_cases a <;> rfl
  have i2 : idx_main_v22 (ix3 b s q) = ix3 b s ⟨2816 + q.val, by omega⟩ := by funext a; fin_cases a <;> rfl
  have g1 := val_main_v21_apply (F := Ideal) x0 x1 x2 x3 x5 (ix3 b s q)
  have g2 := val_main_v22_apply (F := Ideal) x0 x1 x2 x3 x5 (ix3 b s q)
  rw [i1, e1] at g1
  rw [i2, e2] at g2
  rw [val_main_v24_apply, val_main_v23_apply, val_main_call0_v5_apply, val_main_call0_v4_apply, val_main_call0_v3_apply, val_main_call0_v2_apply,
    val_main_call0_v1_apply, val_main_call0_v0_apply, g1, g2]
  refine congrArg (fun u : EReal => u * _) ?_
  exact silu_eq _

/-- The reference at row `R`, column `n`. -/
theorem reference_at (R : Fin 16384) (n : Fin 1024) :
    val_main_v29 (F := Ideal) x0 x1 x2 x3 x4 x5 x6 (ix2 R n)
      = x0 (ix2 R n) + x4 (ix3 ⟨R.val / 8192, by omega⟩ 0 n) * ∑ q : Fin 2816, unit x0 x1 x2 x3 x5 x6 R n q := by
  have hR : seqRow ⟨R.val / 8192, by omega⟩ ⟨R.val % 8192, by omega⟩ = R := Fin.ext (show R.val / 8192 * 8192 + R.val % 8192 = R.val by omega)
  have e29 : idx_main_v29 (ix2 R n) = ix3 ⟨R.val / 8192, by omega⟩ ⟨R.val % 8192, by omega⟩ n := by
    funext a; refine Fin.ext ?_
    fin_cases a
    · show (R.val * 1024 + n.val) / 8388608 = R.val / 8192; omega
    · show (R.val * 1024 + n.val) / 1024 % 8192 = R.val % 8192; omega
    · show (R.val * 1024 + n.val) % 1024 = n.val; omega
  have e26 : idx_main_v26 (ix3 (⟨R.val / 8192, by omega⟩ : Fin 2) (⟨R.val % 8192, by omega⟩ : Fin 8192) n) = ix3 ⟨R.val / 8192, by omega⟩ 0 n := by
    funext a; fin_cases a <;> rfl
  rw [val_main_v29_apply, e29, val_main_v28_apply, val_main_v27_apply, val_main_v26_apply, e26, v0_at, hR, val_main_v25_apply]
  refine congrArg (fun u : EReal => x0 (ix2 R n) + x4 (ix3 ⟨R.val / 8192, by omega⟩ 0 n) * u) (Finset.sum_congr rfl fun q _ => ?_)
  refine congrArg₂ (fun u v : EReal => u * v) ?_ (congrArg x6 ?_)
  · refine Eq.trans (congrArg (val_main_v24 (F := Ideal) x0 x1 x2 x3 x5) (funext fun a => Fin.ext ?_)) ((v24_at x0 x1 x2 x3 x5 ⟨R.val / 8192, by omega⟩ ⟨R.val % 8192, by omega⟩ q).trans ?_)
    · fin_cases a <;> rfl
    · rw [hR]
  · funext a; fin_cases a <;> rfl

end Reference

section Kernel
open Cert.Kernel2Ideal Cert.Kernel2Ideal.Gen

theorem pay1_at (x : FVec Ideal S1024x1024 .f32) (w : FVec Ideal S1x1024 .f32) (sc sh : FVec Ideal S1x1x1024 .f32) (r d : Fin 1024) :
    k0_pay1 (F := Ideal) x w sc sh (ix2 r d) = (modulate (fun e => x (ix2 r e)) (x (ix2 r d)) (w (ix2 0 d)) (sc (ix3 0 0 d)) (sh (ix3 0 0 d)) : EReal) := by
  pointwise [k0_pay1, modulate, invRms]

theorem pay2_at (y : S1024x1024.Idx) : k0_pay2 (F := Ideal) y = (0 : EReal) := by
  pointwise [k0_pay2]

theorem pay3_at (h : FVec Ideal S1024x1024 .bf16) (wa wb : FVec Ideal S1024x256 .bf16) (z : FVec Ideal S1024x1024 .f32) (wd : FVec Ideal S256x1024 .bf16)
    (r n : Fin 1024) :
    k0_pay3 h wa wb z wd (ix2 r n) = z (ix2 r n) + ∑ k : Fin 256, Kernel.Moe.hidden (∑ d : Fin 1024, h (ix2 r d) * wa (ix2 d k)) (∑ d : Fin 1024, h (ix2 r d) * wb (ix2 d k)) * wd (ix2 k n) := by
  pointwise [k0_pay3, Kernel.Moe.hidden]
  simp only [zero_sub]

theorem pay4_at (x : FVec Ideal S1024x1024 .f32) (g : FVec Ideal S1x1x1024 .f32) (z : FVec Ideal S1024x1024 .f32) (r n : Fin 1024) :
    k0_pay4 x g z (ix2 r n) = x (ix2 r n) + g (ix3 0 0 n) * z (ix2 r n) := by
  pointwise [k0_pay4]

end Kernel

end Cert.Kernel2Ideal.Ffn

end
-- ==== Proof.FfnValue.lean ====
/- The dense feed-forward block: the call's output array is the reference's result. -/
module

public import proofs.«01_k».proof.Proof.Gen.Kernel2Ideal.Frame
public import proofs.«01_k».proof.Proof.FfnRef
public import Idealize.ShloMosaic.Lib.Pipeline.ValueKit
public import Idealize.ShloMosaic.Lib.Pipeline.ReadBack

@[expose] public section

set_option maxRecDepth 16384

noncomputable section

namespace Cert.Kernel2Ideal.Ffn

open Cert.Kernel2Ideal Cert.Kernel2Ideal.Gen
open Idealize.ShloMosaic
open Idealize.ShloMosaic.TcCoe Idealize.ShloMosaic.Tactic
open Cert.Trunk

variable (m : (ℓ : Loc nD τ sig) → Buf (Elt Ideal) ℓ)

/-- The reference's result, over the kernel's arguments. -/
abbrev REF (c : Dev nD) : Buf (Elt Ideal) ((c : Thread nD τ).loc main_v3) :=
  Cert.Reference2Ideal.Read.val_main_v29 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- One hidden unit's part of row `R` at column `n`, over the kernel's arguments. -/
abbrev part (c : Dev nD) (R : Fin 16384) (n : Fin 1024) (q : Fin 2816) : EReal :=
  unit (m ((c : Thread nD τ).loc main_arg0)) (m ((c : Thread nD τ).loc main_arg1)) (m ((c : Thread nD τ).loc main_arg2)) (m ((c : Thread nD τ).loc main_arg3))
    (m ((c : Thread nD τ).loc main_arg5)) (m ((c : Thread nD τ).loc main_arg6)) R n q

/-- The normalised and modulated row `R` at column `d`, over the kernel's arguments. -/
abbrev normed (c : Dev nD) (R : Fin 16384) (d : Fin 1024) : EReal :=
  normMod (m ((c : Thread nD τ).loc main_arg0)) (m ((c : Thread nD τ).loc main_arg1)) (m ((c : Thread nD τ).loc main_arg2)) (m ((c : Thread nD τ).loc main_arg3)) R d

/-- Which block each input window is on. -/
theorem idx : ∀ t : Fin cfg0.N, win0_0.index t = ![t.val / 11, 0] ∧ win0_1.index t = ![0, 0] ∧ win0_2.index t = ![t.val / 88, 0, 0] ∧ win0_3.index t = ![t.val / 88, 0, 0]
    ∧ win0_4.index t = ![t.val / 88, 0, 0] ∧ win0_5.index t = ![0, t.val % 11] ∧ win0_6.index t = ![0, 11 + t.val % 11] ∧ win0_7.index t = ![t.val % 11, 0] ∧ win0_8.index t = ![t.val / 11, 0] ∧ t.val < 176 :=
  (by decide +kernel : ∀ t : Fin grid0.N, win0_0.index t = ![t.val / 11, 0] ∧ win0_1.index t = ![0, 0] ∧ win0_2.index t = ![t.val / 88, 0, 0] ∧ win0_3.index t = ![t.val / 88, 0, 0]
    ∧ win0_4.index t = ![t.val / 88, 0, 0] ∧ win0_5.index t = ![0, t.val % 11] ∧ win0_6.index t = ![0, 11 + t.val % 11] ∧ win0_7.index t = ![t.val % 11, 0] ∧ win0_8.index t = ![t.val / 11, 0] ∧ t.val < 176)

/-- The weights the region reads are the arguments: a cast is the identity here. -/
theorem V_gu (c : Dev nD) : (V m c main_v0 : S1024x5632.Idx → EReal) = m ((c : Thread nD τ).loc main_arg5) := by
  entry_read
  rfl

theorem V_down (c : Dev nD) : (V m c main_v1 : S2816x1024.Idx → EReal) = m ((c : Thread nD τ).loc main_arg6) := by
  entry_read
  rfl

/-- The norm's weights as the region reads them: the argument as one row. -/
theorem V_nw (c : Dev nD) (d : Fin 1024) : (V m c main_v2 : S1x1024.Idx → EReal) (ix2 0 d) = (m ((c : Thread nD τ).loc main_arg1) : S1024.Idx → EReal) (ix1 d) := by
  entry_read
  pointwise

/-- Row `r` of the block point `t` is on, among all the rows. -/
abbrev rowAt (t : Fin cfg0.N) (r : Fin 1024) : Fin 16384 := ⟨t.val / 11 * 1024 + r.val, by have := (idx t).2.2.2.2.2.2.2.2.2; omega⟩

/-- The row a first point stores in the carried scratch. -/
theorem pay1_block (c : Dev nD) (t : Fin cfg0.N) (r d : Fin 1024) :
    (k0_pay1 (F := Ideal) (iblk m c 0 t) (iblk m c 1 t) (iblk m c 2 t) (iblk m c 3 t) (ix2 r d) : EReal) = normed m c (rowAt t r) d := by
  obtain ⟨e0, e1, e2, e3, e4, e5, e6, e7, e8, ht⟩ := idx t
  have h1 : (iblk m c 1 t : S1x1024.Idx → EReal) (ix2 0 d) = (m ((c : Thread nD τ).loc main_arg1) : S1024.Idx → EReal) (ix1 d) := by
    refine Eq.trans ?_ (V_nw m c d)
    blk_ext [iblk, e1]
  have h0 : ∀ e : Fin 1024, (iblk m c 0 t : S1024x1024.Idx → EReal) (ix2 r e) = (m ((c : Thread nD τ).loc main_arg0) : S16384x1024.Idx → EReal) (ix2 (rowAt t r) e) := fun e => by
    blk_ext [iblk, V, e0]
  have h2 : (iblk m c 2 t : S1x1x1024.Idx → EReal) (ix3 0 0 d) = (m ((c : Thread nD τ).loc main_arg2) : S2x1x1024.Idx → EReal) (ix3 ⟨(rowAt t r).val / 8192, by omega⟩ 0 d) := by
    blk_ext [iblk, V, e2]
  have h3 : (iblk m c 3 t : S1x1x1024.Idx → EReal) (ix3 0 0 d) = (m ((c : Thread nD τ).loc main_arg3) : S2x1x1024.Idx → EReal) (ix3 ⟨(rowAt t r).val / 8192, by omega⟩ 0 d) := by
    blk_ext [iblk, V, e3]
  rw [pay1_at, h1, h2, h3, h0 d, funext h0]
  rfl

/-- The carried row: at every point, the normalised and modulated rows of its block. -/
theorem carried (c : Dev nD) (n : ℕ) (hn : n < cfg0.N) (r d : Fin 1024) :
    ((outsAt0 m c n hn).2.1 (ix2 r d) : EReal) = normed m c (rowAt ⟨n, hn⟩ r) d := by
  induction n with
  | zero =>
    have e := outsAt0_A m c ⟨0, hn⟩ rfl (show ¬0 % 11 = 10 by decide)
    refine Eq.trans ?_ (pay1_block m c ⟨0, hn⟩ r d)
    show (outsAt0 m c (⟨0, hn⟩ : Fin cfg0.N).val (⟨0, hn⟩ : Fin cfg0.N).isLt).2.1 (ix2 r d) = _
    rw [e]
    frame_out
  | succ n ih =>
    by_cases h0 : (n + 1) % 11 = 0
    · have e := outsAt0_A m c ⟨n + 1, hn⟩ h0 (by show ¬(n + 1) % 11 = 10; omega)
      refine Eq.trans ?_ (pay1_block m c ⟨n + 1, hn⟩ r d)
      show (outsAt0 m c (⟨n + 1, hn⟩ : Fin cfg0.N).val (⟨n + 1, hn⟩ : Fin cfg0.N).isLt).2.1 (ix2 r d) = _
      rw [e]
      frame_out
    · have hrow : rowAt ⟨n + 1, hn⟩ r = rowAt ⟨n, by omega⟩ r := Fin.ext (show (n + 1) / 11 * 1024 + r.val = n / 11 * 1024 + r.val by omega)
      rw [hrow, ← ih (by omega)]
      show (outsAt0 m c (⟨n + 1, hn⟩ : Fin cfg0.N).val (⟨n + 1, hn⟩ : Fin cfg0.N).isLt).2.1 (ix2 r d) = _
      by_cases h1 : (n + 1) % 11 = 10
      · rw [outsAt0_C m c ⟨n + 1, hn⟩ h0 h1]
        rfl
      · rw [outsAt0_B m c ⟨n + 1, hn⟩ h0 h1]
        rfl

/-- What point `t` adds to the accumulator at row `r`, column `n`: its 256 hidden units' parts. -/
def term (c : Dev nD) (t : Fin cfg0.N) (i : S1024x1024.Idx) : EReal :=
  ∑ k : Fin 256, part m c (rowAt t (i 0)) (i 1) ⟨t.val % 11 * 256 + k.val, by omega⟩

/-- The product's payload over a block's normalised rows. -/
theorem pay3_block (c : Dev nD) (t : Fin cfg0.N) (h : FVec Ideal S1024x1024 .bf16) (hh : ∀ r d : Fin 1024, (h (ix2 r d) : EReal) = normed m c (rowAt t r) d)
    (z : FVec Ideal S1024x1024 .f32) (r n : Fin 1024) :
    (k0_pay3 (F := Ideal) h (iblk m c 5 t) (iblk m c 6 t) z (iblk m c 7 t) (ix2 r n) : EReal) = z (ix2 r n) + term m c t (ix2 r n) := by
  obtain ⟨e0, e1, e2, e3, e4, e5, e6, e7, e8, ht⟩ := idx t
  have h5 : ∀ (d : Fin 1024) (k : Fin 256), (iblk m c 5 t : S1024x256.Idx → EReal) (ix2 d k) = (m ((c : Thread nD τ).loc main_arg5) : S1024x5632.Idx → EReal) (ix2 d ⟨t.val % 11 * 256 + k.val, by omega⟩) := fun d k => by
    rw [← V_gu m c]
    blk_ext [iblk, e5]
  have h6 : ∀ (d : Fin 1024) (k : Fin 256), (iblk m c 6 t : S1024x256.Idx → EReal) (ix2 d k) = (m ((c : Thread nD τ).loc main_arg5) : S1024x5632.Idx → EReal) (ix2 d ⟨2816 + (t.val % 11 * 256 + k.val), by omega⟩) := fun d k => by
    rw [← V_gu m c]
    blk_ext [iblk, e6]
  have h7 : ∀ (k : Fin 256), (iblk m c 7 t : S256x1024.Idx → EReal) (ix2 k n) = (m ((c : Thread nD τ).loc main_arg6) : S2816x1024.Idx → EReal) (ix2 ⟨t.val % 11 * 256 + k.val, by omega⟩ n) := fun k => by
    rw [← V_down m c]
    blk_ext [iblk, e7]
  rw [pay3_at]
  refine congrArg (fun u : EReal => (z (ix2 r n) : EReal) + u) (Finset.sum_congr rfl fun k _ => ?_)
  refine congrArg₂ (fun u v : EReal => u * v) (congrArg₂ Kernel.Moe.hidden (Finset.sum_congr rfl fun d _ => ?_) (Finset.sum_congr rfl fun d _ => ?_)) (h7 k)
  · exact congrArg₂ (fun u v : EReal => u * v) (hh r d) (h5 d k)
  · exact congrArg₂ (fun u v : EReal => u * v) (hh r d) (h6 d k)

/-- A block's first point starts the accumulator with its term. -/
theorem acc_first (c : Dev nD) (t : Fin cfg0.N) (h0 : t.val % 11 = 0) (r n : Fin 1024) :
    ((outsAt0 m c t.val t.isLt).2.2 (ix2 r n) : EReal) = 0 + term m c t (ix2 r n) := by
  have h1 : ¬t.val % 11 = 10 := by omega
  rw [outsAt0_A m c t h0 h1]
  frame_out
  refine (pay3_block m c t _ (pay1_block m c t) _ r n).trans ?_
  rw [pay2_at]

/-- The carried row at the point before is the same block's. -/
theorem carried_before (c : Dev nD) (t : Fin cfg0.N) (h0 : ¬t.val % 11 = 0) (h : t.val - 1 < cfg0.N) (r d : Fin 1024) :
    ((outsAt0 m c (t.val - 1) h).2.1 (ix2 r d) : EReal) = normed m c (rowAt t r) d := by
  have hrow : rowAt ⟨t.val - 1, h⟩ r = rowAt t r := Fin.ext (show (t.val - 1) / 11 * 1024 + r.val = t.val / 11 * 1024 + r.val by omega)
  exact (carried m c (t.val - 1) h r d).trans (congrArg (fun R => normed m c R d) hrow)

/-- Every other point adds its term. -/
theorem acc_step (c : Dev nD) (t : Fin cfg0.N) (h0 : ¬t.val % 11 = 0) (h : t.val - 1 < cfg0.N) (r n : Fin 1024) :
    ((outsAt0 m c t.val t.isLt).2.2 (ix2 r n) : EReal) = (outsAt0 m c (t.val - 1) h).2.2 (ix2 r n) + term m c t (ix2 r n) := by
  have hh := carried_before m c t h0 h
  by_cases h1 : t.val % 11 = 10
  · rw [outsAt0_C m c t h0 h1]
    generalize outsAt0 m c (t.val - 1) h = p at hh ⊢
    frame_out
    rw [read_unread_whole, read_unread_whole]
    exact pay3_block m c t _ hh _ r n
  · rw [outsAt0_B m c t h0 h1]
    generalize outsAt0 m c (t.val - 1) h = p at hh ⊢
    frame_out
    rw [read_unread_whole, read_unread_whole]
    exact pay3_block m c t _ hh _ r n

/-- After a block's last point the accumulator holds the sum of the terms of its eleven points. -/
theorem accumulated (c : Dev nD) (t : Fin cfg0.N) (h10 : t.val % 11 = 10) (r n : Fin 1024) :
    ((outsAt0 m c t.val t.isLt).2.2 (ix2 r n) : EReal) = ∑ q : Fin 2816, part m c (rowAt t r) n q := by
  have hsum := Pipeline.eq_sum_fin_of_reset_step_apply_of_flush (N := cfg0.N) (M := EReal) (ι := Fin 1024 × Fin 1024) (fun k h i => (outsAt0 m c k h).2.2 (ix2 i.1 i.2)) 11 (fun _ => 0)
    (fun t i => term m c t (ix2 i.1 i.2)) (fun t h0 i => acc_first m c t h0 i.1 i.2) (fun t h0 i => acc_step m c t h0 _ i.1 i.2) t h10 (r, n)
  refine hsum.trans ((zero_add _).trans ?_)
  refine (Fin.sum_mul_add_congr (S := 11) (n := 256) (fun s k hl => ?_) rfl)
  refine congrArg₂ (fun R q => part m c R n q) (Fin.ext ?_) (Fin.ext ?_)
  · show (11 * (t.val / 11) + s.val) / 11 * 1024 + r.val = t.val / 11 * 1024 + r.val
    omega
  · show (11 * (t.val / 11) + s.val) % 11 * 256 + k.val = s.val * 256 + k.val
    omega

/-- What a block's last point stores at row `r` is the reference's row there. -/
theorem point (c : Dev nD) (t : Fin cfg0.N) (hf : (cfg0.win 8).flush t = true) (r n : Fin 1024) :
    ((outsAt0 m c t.val t.isLt).1 (ix2 r n) : EReal) = REF m c (ix2 (rowAt t r) n) := by
  have h10 : t.val % 11 = 10 := (flush0_8 t).mp hf
  obtain ⟨e0, e1, e2, e3, e4, e5, e6, e7, e8, ht⟩ := idx t
  have h0 : (iblk m c 0 t : S1024x1024.Idx → EReal) (ix2 r n) = (m ((c : Thread nD τ).loc main_arg0) : S16384x1024.Idx → EReal) (ix2 (rowAt t r) n) := by
    blk_ext [iblk, V, e0]
  have h4 : (iblk m c 4 t : S1x1x1024.Idx → EReal) (ix3 0 0 n) = (m ((c : Thread nD τ).loc main_arg4) : S2x1x1024.Idx → EReal) (ix3 ⟨(rowAt t r).val / 8192, by omega⟩ 0 n) := by
    blk_ext [iblk, V, e4]
  have hs : (outsAt0 m c t.val t.isLt).1 = k0_pay4 (F := Ideal) (iblk m c 0 t) (iblk m c 4 t) (outsAt0 m c t.val t.isLt).2.2 := by
    rw [outsAt0_C m c t (by omega) h10]
    frame_out
  rw [hs, pay4_at, accumulated m c t h10, h0, h4, REF, reference_at]

/-- The call's output array after the run. -/
theorem final (c : Dev nD) : (dats m 0 c).arrAt 8 cfg0.N = REF m c := by
  refine (dats m 0 c).arrAt_eq_of_covers 8 _ (by decide +kernel) fun t hf y => ?_
  blk_simp
  rw [after0_8]
  obtain ⟨e0, e1, e2, e3, e4, e5, e6, e7, e8, ht⟩ := idx t
  have hp := point m c t hf (y (0 : Fin 2)) (y (1 : Fin 2))
  refine Eq.trans ?_ (hp.trans ?_)
  · refine congrArg (outsAt0 m c t.val t.isLt).1 (funext fun x => ?_)
    fin_cases x <;> rfl
  · refine congrArg (REF m c) ?_
    blk_ext [e8]

end Cert.Kernel2Ideal.Ffn

end
-- ==== Proof.Projection.lean ====
/- The normalised and modulated rows times a weight matrix: the call's output array is the reference's result. -/
module

public import proofs.«01_k».proof.Proof.Gen.Kernel3Ideal.Frame
public import proofs.«01_k».proof.Proof.Gen.Reference3Ideal.Read
public import proofs.«01_k».proof.Proof.FfnRef
public import Idealize.ShloMosaic.Lib.Pipeline.ValueKit

@[expose] public section

set_option maxRecDepth 16384

noncomputable section

namespace Cert.Kernel3Ideal.Projection

open Idealize.ShloMosaic
open Idealize.ShloMosaic.TcCoe Idealize.ShloMosaic.Tactic
open Cert.Trunk

section Reference
open Cert.Reference3Ideal Cert.Reference3Ideal.Read

variable (x0 : FVec Ideal S16384x1024 .f32) (x1 : FVec Ideal S1024 .f32) (x2 x3 : FVec Ideal S2x1x1024 .f32) (x4 : FVec Ideal S1024x4112 .f32)

/-- The reference's normalised and modulated row: the same operations as the feed-forward block's. -/
theorem v19_at (b : Fin 2) (s : Fin 8192) (d : Fin 1024) : val_main_v19 (F := Ideal) x0 x1 x2 x3 (ix3 b s d) = normMod x0 x1 x2 x3 (Kernel2Ideal.Ffn.seqRow b s) d :=
  Kernel2Ideal.Ffn.v19_at x0 x1 x2 x3 b s d

/-- The same at a row of the flat array. -/
theorem v19_at_row (R : Fin 16384) (d : Fin 1024) : val_main_v19 (F := Ideal) x0 x1 x2 x3 (ix3 ⟨R.val / 8192, by omega⟩ ⟨R.val % 8192, by omega⟩ d) = normMod x0 x1 x2 x3 R d := by
  have hR : Kernel2Ideal.Ffn.seqRow ⟨R.val / 8192, by omega⟩ ⟨R.val % 8192, by omega⟩ = R := Fin.ext (show R.val / 8192 * 8192 + R.val % 8192 = R.val by omega)
  rw [v19_at, hR]

/-- The reference's product at position `s` of sequence `b`, column `n`. -/
theorem v20_at (b : Fin 2) (s : Fin 8192) (n : Fin 4112) :
    val_main_v20 (F := Ideal) x0 x1 x2 x3 x4 (ix3 b s n) = ∑ d : Fin 1024, normMod x0 x1 x2 x3 (Kernel2Ideal.Ffn.seqRow b s) d * x4 (ix2 d n) := by
  rw [val_main_v20_apply]
  refine Finset.sum_congr rfl fun d _ => congrArg₂ (fun u v : EReal => u * v) ?_ (congrArg x4 ?_)
  · refine Eq.trans (congrArg (val_main_v19 (F := Ideal) x0 x1 x2 x3) (funext fun a => Fin.ext ?_)) (v19_at x0 x1 x2 x3 b s d)
    fin_cases a <;> rfl
  · funext a; fin_cases a <;> rfl

/-- The reference at row `R`, column `n`. -/
theorem reference_at (R : Fin 16384) (n : Fin 4112) :
    val_main_v24 (F := Ideal) x0 x1 x2 x3 x4 (ix2 R n) = ∑ d : Fin 1024, normMod x0 x1 x2 x3 R d * x4 (ix2 d n) := by
  have e24 : idx_main_v24 (ix2 R n) = ix3 ⟨R.val / 8192, by omega⟩ ⟨R.val % 8192, by omega⟩ n := by
    funext a; refine Fin.ext ?_
    fin_cases a
    · show (R.val * 4112 + n.val) / 33685504 = R.val / 8192; omega
    · show (R.val * 4112 + n.val) / 4112 % 8192 = R.val % 8192; omega
    · show (R.val * 4112 + n.val) % 4112 = n.val; omega
  have hR : Kernel2Ideal.Ffn.seqRow ⟨R.val / 8192, by omega⟩ ⟨R.val % 8192, by omega⟩ = R := Fin.ext (show R.val / 8192 * 8192 + R.val % 8192 = R.val by omega)
  rw [val_main_v24_apply, e24, v20_at, hR]

/-- The reference's rows for the next convolution: of the sequence with three rows put before it, the last three are the sequence's own. -/
theorem tail_at (b : Fin 2) (r : Fin 3) (k : Fin 3072) :
    val_main_v25 (F := Ideal) x0 x1 x2 x3 x4 (ix3 b r k)
      = ∑ d : Fin 1024, normMod x0 x1 x2 x3 (Kernel2Ideal.Ffn.seqRow b ⟨8189 + r.val, by omega⟩) d * x4 (ix2 d ⟨k.val, by omega⟩) := by
  have e25 : idx_main_v25 (ix3 b r k) = ix3 b ⟨8192 + r.val, by omega⟩ k := by
    funext a; fin_cases a <;> rfl
  have e22 : idx_main_v22 (ix3 b ⟨8189 + r.val, by omega⟩ k) = ix3 b ⟨8189 + r.val, by omega⟩ ⟨k.val, by omega⟩ := by
    funext a; fin_cases a <;> rfl
  rw [val_main_v25_apply, e25]
  unfold val_main_v23
  refine (concatenate_pair_apply_right (t := S2x8195x3072) (s₁ := S2x3x3072) (s₂ := S2x8192x3072) 1 _ _ _ _ rfl rfl (ix3 b ⟨8189 + r.val, by omega⟩ k) (fun a ha => ?_) ?_).trans ?_
  · fin_cases a <;> first | rfl | exact absurd rfl ha
  · show 8189 + r.val + 3 = 8192 + r.val; omega
  · rw [val_main_v22_apply, e22, v20_at]

end Reference

open Cert.Kernel3Ideal Cert.Kernel3Ideal.Gen

theorem pay1_at (x : FVec Ideal S256x1024 .f32) (w : FVec Ideal S1x1024 .f32) (sc sh : FVec Ideal S1x1x1024 .f32) (r : Fin 256) (d : Fin 1024) :
    k0_pay1 (F := Ideal) x w sc sh (ix2 r d) = (modulate (fun e => x (ix2 r e)) (x (ix2 r d)) (w (ix2 0 d)) (sc (ix3 0 0 d)) (sh (ix3 0 0 d)) : EReal) := by
  pointwise [k0_pay1, modulate, invRms]

theorem pay2_at (h : FVec Ideal S256x1024 .bf16) (w : FVec Ideal S1024x4224 .bf16) (r : Fin 256) (n : Fin 4224) :
    k0_pay2 (F := Ideal) h w (ix2 r n) = (∑ d : Fin 1024, h (ix2 r d) * w (ix2 d n) : EReal) := by
  pointwise [k0_pay2]

variable (m : (ℓ : Loc nD τ sig) → Buf (Elt Ideal) ℓ)

/-- The reference's projection, over the kernel's arguments. -/
abbrev REF (c : Dev nD) : Buf (Elt Ideal) ((c : Thread nD τ).loc main_v4) :=
  Cert.Reference3Ideal.Read.val_main_v24 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The reference's rows for the next convolution, over the kernel's arguments. -/
abbrev TAIL (c : Dev nD) : Buf (Elt Ideal) ((c : Thread nD τ).loc main_v7) :=
  Cert.Reference3Ideal.Read.val_main_v25 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The normalised and modulated row `R` at column `d`, over the kernel's arguments. -/
abbrev normed (c : Dev nD) (R : Fin 16384) (d : Fin 1024) : EReal :=
  normMod (m ((c : Thread nD τ).loc main_arg0)) (m ((c : Thread nD τ).loc main_arg1)) (m ((c : Thread nD τ).loc main_arg2)) (m ((c : Thread nD τ).loc main_arg3)) R d

/-- The padded product: what the region's array ends at, padded columns included. -/
def padded (c : Dev nD) : Buf (Elt Ideal) ((c : Thread nD τ).loc main_v3) :=
  fun i : S16384x4224.Idx => (∑ d : Fin 1024, normed m c (i 0) d * (V m c main_v1 : S1024x4224.Idx → EReal) (ix2 d (i 1)) : EReal)

/-- Which block each window is on. -/
theorem idx : ∀ t : Fin cfg0.N, win0_0.index t = ![t.val, 0] ∧ win0_1.index t = ![0, 0] ∧ win0_2.index t = ![t.val / 32, 0, 0] ∧ win0_3.index t = ![t.val / 32, 0, 0]
    ∧ win0_4.index t = ![0, 0] ∧ win0_5.index t = ![t.val, 0] ∧ t.val < 64 :=
  (by decide +kernel : ∀ t : Fin grid0.N, win0_0.index t = ![t.val, 0] ∧ win0_1.index t = ![0, 0] ∧ win0_2.index t = ![t.val / 32, 0, 0] ∧ win0_3.index t = ![t.val / 32, 0, 0]
    ∧ win0_4.index t = ![0, 0] ∧ win0_5.index t = ![t.val, 0] ∧ t.val < 64)

/-- The norm's weights as the region reads them: the argument as one row. -/
theorem V_nw (c : Dev nD) (d : Fin 1024) : (V m c main_v2 : S1x1024.Idx → EReal) (ix2 0 d) = (m ((c : Thread nD τ).loc main_arg1) : S1024.Idx → EReal) (ix1 d) := by
  have e : V m c main_v2 = shapeCast S1x1024 (m ((c : Thread nD τ).loc main_arg1) : S1024.Idx → EReal) shapeCasts_S1024_S1x1024 := by
    simp only [V, V0, hostOps0, hostOps0_1, hostOps0_2, List.flatten_cons, List.flatten_nil, List.append_nil, List.cons_append, List.nil_append]
    after_results_simp <;> rfl
  rw [e]
  pointwise

/-- The weights the region reads: the argument, cast, with columns added at its right. -/
theorem V_v1 (c : Dev nD) : V m c main_v1 = truncf (F := Ideal) .bf16
    (pad S1024x4224 ![0, 0] ![0, 112] ![0, 0] (m ((c : Thread nD τ).loc main_arg4)) (sitofp (F := Ideal) .f32 (constantI S_ 32 0#32)) pads_S1024x4112_S1024x4224_000_01120 h_S_) bitsLt_bf16_f32 := by
  simp only [V, V0, hostOps0, hostOps0_1, hostOps0_2, List.flatten_cons, List.flatten_nil, List.append_nil, List.cons_append, List.nil_append]
  after_results_simp <;> rfl

/-- The weights the region reads are the argument on its own columns. -/
theorem V_weights (c : Dev nD) (d : Fin 1024) (n : Fin 4112) :
    (V m c main_v1 : S1024x4224.Idx → EReal) (ix2 d ⟨n.val, by omega⟩) = (m ((c : Thread nD τ).loc main_arg4) : S1024x4112.Idx → EReal) (ix2 d n) := by
  rw [V_v1]
  pointwise
  refine dif_pos fun a => ?_
  fin_cases a
  · show 0 ≤ d.val ∧ (d.val - 0) % 1 = 0 ∧ (d.val - 0) / 1 < 1024
    omega
  · show 0 ≤ n.val ∧ (n.val - 0) % 1 = 0 ∧ (n.val - 0) / 1 < 4112
    omega

/-- Row `r` of the block point `t` is on, among all the rows. -/
abbrev rowAt (t : Fin cfg0.N) (r : Fin 256) : Fin 16384 := ⟨t.val * 256 + r.val, by have := (idx t).2.2.2.2.2.2; omega⟩

/-- The rows a point normalises. -/
theorem pay1_block (c : Dev nD) (t : Fin cfg0.N) (r : Fin 256) (d : Fin 1024) :
    (k0_pay1 (F := Ideal) (iblk m c 0 t) (iblk m c 1 t) (iblk m c 2 t) (iblk m c 3 t) (ix2 r d) : EReal) = normed m c (rowAt t r) d := by
  obtain ⟨e0, e1, e2, e3, e4, e5, ht⟩ := idx t
  have h1 : (iblk m c 1 t : S1x1024.Idx → EReal) (ix2 0 d) = (m ((c : Thread nD τ).loc main_arg1) : S1024.Idx → EReal) (ix1 d) := by
    refine Eq.trans ?_ (V_nw m c d)
    blk_ext [iblk, e1]
  have h0 : ∀ e : Fin 1024, (iblk m c 0 t : S256x1024.Idx → EReal) (ix2 r e) = (m ((c : Thread nD τ).loc main_arg0) : S16384x1024.Idx → EReal) (ix2 (rowAt t r) e) := fun e => by
    blk_ext [iblk, V, e0]
  have h2 : (iblk m c 2 t : S1x1x1024.Idx → EReal) (ix3 0 0 d) = (m ((c : Thread nD τ).loc main_arg2) : S2x1x1024.Idx → EReal) (ix3 ⟨(rowAt t r).val / 8192, by omega⟩ 0 d) := by
    blk_ext [iblk, V, e2]
  have h3 : (iblk m c 3 t : S1x1x1024.Idx → EReal) (ix3 0 0 d) = (m ((c : Thread nD τ).loc main_arg3) : S2x1x1024.Idx → EReal) (ix3 ⟨(rowAt t r).val / 8192, by omega⟩ 0 d) := by
    blk_ext [iblk, V, e3]
  rw [pay1_at, h1, h2, h3, h0 d, funext h0]
  rfl

/-- What point `t` stores at row `r` of its block. -/
theorem point (c : Dev nD) (t : Fin cfg0.N) (r : Fin 256) (n : Fin 4224) :
    ((outsAt0 m c t : S256x4224.Idx → EReal) (ix2 r n) : EReal) = (padded m c : S16384x4224.Idx → EReal) (ix2 (rowAt t r) n) := by
  obtain ⟨e0, e1, e2, e3, e4, e5, ht⟩ := idx t
  have hs : outsAt0 m c t = k0_pay2 (F := Ideal) (k0_pay1 (F := Ideal) (iblk m c 0 t) (iblk m c 1 t) (iblk m c 2 t) (iblk m c 3 t)) (iblk m c 4 t) := by
    unfold outsAt0
    frame_out
  rw [hs, pay2_at]
  refine Finset.sum_congr rfl fun d _ => congrArg₂ (fun u v : EReal => u * v) (pay1_block m c t r d) ?_
  blk_ext [iblk, e4]

/-- The region's array after the run. -/
theorem final (c : Dev nD) : (dats m 0 c).arrAt 5 cfg0.N = padded m c := by
  refine (dats m 0 c).arrAt_eq_of_covers 5 _ (by decide +kernel) fun t _ y => ?_
  blk_simp
  rw [after0_5]
  obtain ⟨e0, e1, e2, e3, e4, e5, ht⟩ := idx t
  have h0 : (y (0 : Fin 2)).val < 256 := (y (0 : Fin 2)).isLt
  have hp := point m c t (y (0 : Fin 2)) (y (1 : Fin 2))
  refine Eq.trans ?_ (hp.trans ?_)
  · refine congrArg (outsAt0 m c t) (funext fun x => ?_)
    fin_cases x <;> rfl
  · refine congrArg (padded m c) ?_
    blk_ext [e5]

/-- The columns the caller keeps are the reference's. -/
theorem sliced (c : Dev nD) : (extractStridedSlice S16384x4112 ![0, 0] (padded m c) slices_S16384x4224_S16384x4112_0_0 : S16384x4112.Idx → EReal) = REF m c := by
  funext i
  obtain ⟨R, n, rfl⟩ : ∃ R n, i = ix2 R n := ⟨i 0, i 1, by funext x; fin_cases x <;> rfl⟩
  rw [REF, reference_at]
  have e : (extractStridedSlice S16384x4112 ![0, 0] (padded m c) slices_S16384x4224_S16384x4112_0_0 : S16384x4112.Idx → EReal) (ix2 R n) = (padded m c : S16384x4224.Idx → EReal) (ix2 R ⟨n.val, by omega⟩) := by
    pointwise
  rw [e]
  exact Finset.sum_congr rfl fun d _ => congrArg (fun u : EReal => _ * u) (V_weights m c d n)

/-- The last three positions' first 3072 columns are the reference's. -/
theorem last_rows (c : Dev nD) : (extractStridedSlice S2x3x3072 ![0, 8189, 0]
    (shapeCast S2x8192x3072 (extractStridedSlice S16384x3072 ![0, 0] (padded m c) slices_S16384x4224_S16384x3072_0_0 : S16384x3072.Idx → EReal) shapeCasts_S16384x3072_S2x8192x3072 : S2x8192x3072.Idx → EReal)
    slices_S2x8192x3072_S2x3x3072_0_8189_0 : S2x3x3072.Idx → EReal) = TAIL m c := by
  funext i
  obtain ⟨b, r, k, rfl⟩ : ∃ b r k, i = ix3 b r k := ⟨i 0, i 1, i 2, by funext x; fin_cases x <;> rfl⟩
  rw [TAIL, tail_at]
  refine Eq.trans (extractStridedSlice_apply ![0, 8189, 0] _ slices_S2x8192x3072_S2x3x3072_0_8189_0 (ix3 b r k) (ix3 b ⟨8189 + r.val, by omega⟩ k) fun a => ?_) ?_
  · fin_cases a
    · show b.val = 0 + b.val; omega
    · rfl
    · show k.val = 0 + k.val; omega
  refine Eq.trans (shapeCast_apply _ shapeCasts_S16384x3072_S2x8192x3072 (ix3 b ⟨8189 + r.val, by omega⟩ k) (ix2 (Kernel2Ideal.Ffn.seqRow b ⟨8189 + r.val, by omega⟩) k) ?_) ?_
  · rewrite [Shape.rowMajor_val_two, Shape.rowMajor_val_three]
    rfl
  have e : ∀ R : Fin 16384, (extractStridedSlice S16384x3072 ![0, 0] (padded m c) slices_S16384x4224_S16384x3072_0_0 : S16384x3072.Idx → EReal) (ix2 R k)
      = (padded m c : S16384x4224.Idx → EReal) (ix2 R ⟨k.val, by omega⟩) := fun R => by
    pointwise
  rw [e]
  exact Finset.sum_congr rfl fun d _ => congrArg (fun u : EReal => _ * u) (V_weights m c d ⟨k.val, by omega⟩)

/-- The region's array as the operations after it read it. -/
theorem region (c : Dev nD) : Pipeline.withArrays (cfgs 0).spec c (V0 m c) (fun w => (dats m 0 c).arrAt w (cfgs 0).N) main_v3 = padded m c :=
  (Pipeline.withArrays_arr _ winFacts0.arr_inj c (V0 m c) (fun w => (dats m 0 c).arrAt w (cfgs 0).N) 5).trans (final m c)

/-- What the projection ends at, after the slice that follows the region. -/
theorem result (c : Dev nD) : Pipeline.afterTail₀ cfgs (dats m) 0 (V0 m) [hostOps1] c main_v4 = REF m c := by
  refine Eq.trans ?_ (sliced m c)
  unfold Pipeline.afterTail₀
  simp only [hostOps1, List.flatten_cons, List.flatten_nil, List.append_nil, List.cons_append, List.nil_append]
  after_results_simp
  exact congrArg (fun A : S16384x4224.Idx → EReal => extractStridedSlice S16384x4112 ![0, 0] A slices_S16384x4224_S16384x4112_0_0) (region m c)

/-- What the rows for the next convolution end at. -/
theorem result_tail (c : Dev nD) : Pipeline.afterTail₀ cfgs (dats m) 0 (V0 m) [hostOps1] c main_v7 = TAIL m c := by
  refine Eq.trans ?_ (last_rows m c)
  unfold Pipeline.afterTail₀
  simp only [hostOps1, List.flatten_cons, List.flatten_nil, List.append_nil, List.cons_append, List.nil_append]
  after_results_simp
  exact congrArg (fun A : S16384x4224.Idx → EReal => extractStridedSlice S2x3x3072 ![0, 8189, 0]
    (shapeCast S2x8192x3072 (extractStridedSlice S16384x3072 ![0, 0] A slices_S16384x4224_S16384x3072_0_0 : S16384x3072.Idx → EReal) shapeCasts_S16384x3072_S2x8192x3072 : S2x8192x3072.Idx → EReal)
    slices_S2x8192x3072_S2x3x3072_0_8189_0) (region m c)

end Cert.Kernel3Ideal.Projection

end
-- ==== Proof.Residual.lean ====
/- The projection with a residual: the call's output array is the reference's result. -/
module

public import proofs.«01_k».proof.Proof.Gen.Kernel4Ideal.Frame
public import proofs.«01_k».proof.Proof.Gen.Reference4Ideal.Read
public import Idealize.ShloMosaic.Lib.Pipeline.ValueKit

@[expose] public section

set_option maxRecDepth 16384

noncomputable section

namespace Cert.Kernel4Ideal.Residual

open Cert.Kernel4Ideal Cert.Kernel4Ideal.Gen
open Idealize.ShloMosaic
open Idealize.ShloMosaic.TcCoe Idealize.ShloMosaic.Tactic

variable (m : (ℓ : Loc nD τ sig) → Buf (Elt Ideal) ℓ)

/-- The reference's result, over the kernel's arguments. -/
abbrev REF (c : Dev nD) : Buf (Elt Ideal) ((c : Thread nD τ).loc main_v1) :=
  Cert.Reference4Ideal.Read.val_main_v7 (F := Ideal) (m ((c : Thread nD τ).loc main_arg0)) (m ((c : Thread nD τ).loc main_arg1)) (m ((c : Thread nD τ).loc main_arg2)) (m ((c : Thread nD τ).loc main_arg3))

/-- The reference at row `R`, column `n`. -/
theorem reference_at (a : FVec Ideal S16384x1024 .bf16) (w : FVec Ideal S1024x1024 .f32) (x : FVec Ideal S16384x1024 .f32) (g : FVec Ideal S2x1x1024 .f32)
    (R : Fin 16384) (n : Fin 1024) :
    Cert.Reference4Ideal.Read.val_main_v7 (F := Ideal) a w x g (ix2 R n)
      = x (ix2 R n) + g (ix3 ⟨R.val / 8192, by omega⟩ 0 n) * ∑ k : Fin 1024, a (ix2 R k) * w (ix2 k n) := by
  rw [Cert.Reference4Ideal.Read.val_main_v7_apply, Cert.Reference4Ideal.Read.val_main_v6_apply, Cert.Reference4Ideal.Read.val_main_v5_apply, Cert.Reference4Ideal.Read.val_main_v4_apply, Cert.Reference4Ideal.Read.val_main_v0_apply, Cert.Reference4Ideal.Read.val_main_v3_apply]
  simp only [Cert.Reference4Ideal.Read.val_main_v2_apply, Cert.Reference4Ideal.Read.val_main_v1_apply]
  pointwise
  blk_point []

/-- What a point stores, at an index of its block. -/
theorem payload_at (x : FVec Ideal S512x1024 .f32) (g : FVec Ideal S1x1x1024 .f32) (a : FVec Ideal S512x1024 .bf16) (w : FVec Ideal S1024x1024 .bf16)
    (r : Fin 512) (n : Fin 1024) :
    k0_pay1 x g a w (ix2 r n) = x (ix2 r n) + g (ix3 0 0 n) * ∑ k : Fin 1024, a (ix2 r k) * w (ix2 k n) := by
  pointwise [k0_pay1]

/-- Which block each window is on. -/
theorem idx : ∀ t : Fin cfg0.N, win0_0.index t = ![t.val, 0] ∧ win0_1.index t = ![0, 0] ∧ win0_2.index t = ![t.val, 0] ∧ win0_3.index t = ![t.val / 16, 0, 0] ∧ win0_4.index t = ![t.val, 0] ∧ t.val < 32 :=
  (by decide +kernel : ∀ t : Fin grid0.N, win0_0.index t = ![t.val, 0] ∧ win0_1.index t = ![0, 0] ∧ win0_2.index t = ![t.val, 0] ∧ win0_3.index t = ![t.val / 16, 0, 0] ∧ win0_4.index t = ![t.val, 0] ∧ t.val < 32)

/-- The weights the region reads are the argument: a cast is the identity here. -/
theorem V_weights (c : Dev nD) : (V m c main_v0 : S1024x1024.Idx → EReal) = m ((c : Thread nD τ).loc main_arg1) := by
  entry_read
  rfl

/-- What point `t` stores at row `r` of its block is the reference's row there. -/
theorem point (c : Dev nD) (t : Fin cfg0.N) (r : Fin 512) (n : Fin 1024) (R : Fin 16384) (hR : R.val = t.val * 512 + r.val) :
    k0_pay1 (F := Ideal) (iblk m c 2 t) (iblk m c 3 t) (iblk m c 0 t) (iblk m c 1 t) (ix2 r n) = REF m c (ix2 R n) := by
  obtain ⟨e0, e1, e2, e3, e4, ht⟩ := idx t
  rw [payload_at, REF, reference_at]
  have h1 : (iblk m c 1 t : S1024x1024.Idx → EReal) = m ((c : Thread nD τ).loc main_arg1) := by
    refine Eq.trans ?_ (V_weights m c)
    funext j
    blk_ext [iblk, e1]
  rw [← h1]
  blk_point [iblk, V, e0, e1, e2, e3]

/-- The call's output array after the run. -/
theorem final (c : Dev nD) : (dats m 0 c).arrAt 4 cfg0.N = REF m c := by
  refine (dats m 0 c).arrAt_eq_of_covers 4 _ (by decide +kernel) fun t _ y => ?_
  blk_simp
  rw [after0_4]
  frame_out
  obtain ⟨e0, e1, e2, e3, e4, ht⟩ := idx t
  have h0 : (y (0 : Fin 2)).val < 512 := (y (0 : Fin 2)).isLt
  have hp := point m c t (y (0 : Fin 2)) (y (1 : Fin 2)) ⟨t.val * 512 + (y (0 : Fin 2)).val, by omega⟩ rfl
  refine Eq.trans ?_ (hp.trans ?_)
  · refine congrArg (k0_pay1 (F := Ideal) (iblk m c 2 t) (iblk m c 3 t) (iblk m c 0 t) (iblk m c 1 t)) (funext fun x => ?_)
    fin_cases x <;> rfl
  · refine congrArg (REF m c) ?_
    blk_ext [e4]

end Cert.Kernel4Ideal.Residual

end
-- ==== Proof.ProjectionNsa.lean ====
/- The same call at the sparse attention's projection: 512 rows to a block, 1840 columns of weights padded to 1920 and cut off again.
   The normalised row and its reference are those of Projection.lean; what differs is the row block and the columns. -/
module

public import proofs.«01_k».proof.Proof.Gen.Kernel5Ideal.Frame
public import proofs.«01_k».proof.Proof.Gen.Reference5Ideal.Read
public import proofs.«01_k».proof.Proof.Projection

@[expose] public section

set_option maxRecDepth 16384

noncomputable section

namespace Cert.Kernel5Ideal.ProjectionNsa

open Idealize.ShloMosaic
open Idealize.ShloMosaic.TcCoe Idealize.ShloMosaic.Tactic
open Cert.Trunk

section Reference
open Cert.Reference5Ideal Cert.Reference5Ideal.Read

variable (x0 : FVec Ideal S16384x1024 .f32) (x1 : FVec Ideal S1024 .f32) (x2 x3 : FVec Ideal S2x1x1024 .f32) (x4 : FVec Ideal S1024x1840 .f32)

/-- The reference's product at position `s` of sequence `b`, column `n`: the normalised row is the other projection's. -/
theorem v20_at (b : Fin 2) (s : Fin 8192) (n : Fin 1840) :
    val_main_v20 (F := Ideal) x0 x1 x2 x3 x4 (ix3 b s n) = ∑ d : Fin 1024, normMod x0 x1 x2 x3 (Kernel2Ideal.Ffn.seqRow b s) d * x4 (ix2 d n) := by
  rw [val_main_v20_apply]
  refine Finset.sum_congr rfl fun d _ => congrArg₂ (fun u v : EReal => u * v) ?_ (congrArg x4 ?_)
  · refine Eq.trans (congrArg (val_main_v19 (F := Ideal) x0 x1 x2 x3) (funext fun a => Fin.ext ?_)) (Kernel3Ideal.Projection.v19_at x0 x1 x2 x3 b s d)
    fin_cases a <;> rfl
  · funext a; fin_cases a <;> rfl

/-- The reference at row `R`, column `n`. -/
theorem reference_at (R : Fin 16384) (n : Fin 1840) :
    val_main_v23 (F := Ideal) x0 x1 x2 x3 x4 (ix2 R n) = ∑ d : Fin 1024, normMod x0 x1 x2 x3 R d * x4 (ix2 d n) := by
  have e23 : idx_main_v23 (ix2 R n) = ix3 ⟨R.val / 8192, by omega⟩ ⟨R.val % 8192, by omega⟩ n := by
    funext a; refine Fin.ext ?_
    fin_cases a
    · show (R.val * 1840 + n.val) / 15073280 = R.val / 8192; omega
    · show (R.val * 1840 + n.val) / 1840 % 8192 = R.val % 8192; omega
    · show (R.val * 1840 + n.val) % 1840 = n.val; omega
  have hR : Kernel2Ideal.Ffn.seqRow ⟨R.val / 8192, by omega⟩ ⟨R.val % 8192, by omega⟩ = R := Fin.ext (show R.val / 8192 * 8192 + R.val % 8192 = R.val by omega)
  rw [val_main_v23_apply, e23, v20_at, hR]

/-- The reference's keys and values, one row of 768 columns to a position. -/
theorem v21_at (b : Fin 2) (s : Fin 8192) (k : Fin 768) :
    val_main_v21 (F := Ideal) x0 x1 x2 x3 x4 (ix3 b s k) = ∑ d : Fin 1024, normMod x0 x1 x2 x3 (Kernel2Ideal.Ffn.seqRow b s) d * x4 (ix2 d ⟨1024 + k.val, by omega⟩) := by
  have e21 : idx_main_v21 (ix3 b s k) = ix3 b s ⟨1024 + k.val, by omega⟩ := by
    funext a; fin_cases a <;> rfl
  rw [val_main_v21_apply, e21, v20_at]

end Reference

open Cert.Kernel5Ideal Cert.Kernel5Ideal.Gen

theorem pay1_at (x : FVec Ideal S512x1024 .f32) (w : FVec Ideal S1x1024 .f32) (sc sh : FVec Ideal S1x1x1024 .f32) (r : Fin 512) (d : Fin 1024) :
    k0_pay1 (F := Ideal) x w sc sh (ix2 r d) = (modulate (fun e => x (ix2 r e)) (x (ix2 r d)) (w (ix2 0 d)) (sc (ix3 0 0 d)) (sh (ix3 0 0 d)) : EReal) := by
  pointwise [k0_pay1, modulate, invRms]

theorem pay2_at (h : FVec Ideal S512x1024 .bf16) (w : FVec Ideal S1024x1920 .bf16) (r : Fin 512) (n : Fin 1920) :
    k0_pay2 (F := Ideal) h w (ix2 r n) = (∑ d : Fin 1024, h (ix2 r d) * w (ix2 d n) : EReal) := by
  pointwise [k0_pay2]

variable (m : (ℓ : Loc nD τ sig) → Buf (Elt Ideal) ℓ)

/-- The reference's projection, over the kernel's arguments. -/
abbrev REF (c : Dev nD) : Buf (Elt Ideal) ((c : Thread nD τ).loc main_v6) :=
  Cert.Reference5Ideal.Read.val_main_v23 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The reference's keys and values of all the branches, over the kernel's arguments. -/
abbrev ALL (c : Dev nD) : Buf (Elt Ideal) ((c : Thread nD τ).loc main_v5) :=
  Cert.Reference5Ideal.Read.val_main_v22 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The reference's keys and values for the cache, over the kernel's arguments. -/
abbrev CACHE (c : Dev nD) : Buf (Elt Ideal) ((c : Thread nD τ).loc main_v7) :=
  Cert.Reference5Ideal.Read.val_main_v24 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The reference's keys and values of the last window, over the kernel's arguments. -/
abbrev WINDOW (c : Dev nD) : Buf (Elt Ideal) ((c : Thread nD τ).loc main_v8) :=
  Cert.Reference5Ideal.Read.val_main_v25 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The normalised and modulated row `R` at column `d`, over the kernel's arguments. -/
abbrev normed (c : Dev nD) (R : Fin 16384) (d : Fin 1024) : EReal :=
  normMod (m ((c : Thread nD τ).loc main_arg0)) (m ((c : Thread nD τ).loc main_arg1)) (m ((c : Thread nD τ).loc main_arg2)) (m ((c : Thread nD τ).loc main_arg3)) R d

/-- The product over all 1920 columns, those added at the right included. -/
def padded (c : Dev nD) : Buf (Elt Ideal) ((c : Thread nD τ).loc main_v3) :=
  fun i : S16384x1920.Idx => (∑ d : Fin 1024, normed m c (i 0) d * (V m c main_v1 : S1024x1920.Idx → EReal) (ix2 d (i 1)) : EReal)

/-- Which block each window is on: sixteen row blocks to a sequence. -/
theorem idx : ∀ t : Fin cfg0.N, win0_0.index t = ![t.val, 0] ∧ win0_1.index t = ![0, 0] ∧ win0_2.index t = ![t.val / 16, 0, 0] ∧ win0_3.index t = ![t.val / 16, 0, 0]
    ∧ win0_4.index t = ![0, 0] ∧ win0_5.index t = ![t.val, 0] ∧ t.val < 32 :=
  (by decide +kernel : ∀ t : Fin grid0.N, win0_0.index t = ![t.val, 0] ∧ win0_1.index t = ![0, 0] ∧ win0_2.index t = ![t.val / 16, 0, 0] ∧ win0_3.index t = ![t.val / 16, 0, 0]
    ∧ win0_4.index t = ![0, 0] ∧ win0_5.index t = ![t.val, 0] ∧ t.val < 32)

/-- The norm's weights as the region reads them: the argument as one row. -/
theorem V_nw (c : Dev nD) (d : Fin 1024) : (V m c main_v2 : S1x1024.Idx → EReal) (ix2 0 d) = (m ((c : Thread nD τ).loc main_arg1) : S1024.Idx → EReal) (ix1 d) := by
  have e : V m c main_v2 = shapeCast S1x1024 (m ((c : Thread nD τ).loc main_arg1) : S1024.Idx → EReal) shapeCasts_S1024_S1x1024 := by
    simp only [V, V0, hostOps0, hostOps0_1, hostOps0_2, List.flatten_cons, List.flatten_nil, List.append_nil, List.cons_append, List.nil_append]
    after_results_simp <;> rfl
  rw [e]
  pointwise

/-- The weights the region reads are the argument on its own columns. -/
theorem V_weights (c : Dev nD) (d : Fin 1024) (n : Fin 1840) :
    (V m c main_v1 : S1024x1920.Idx → EReal) (ix2 d ⟨n.val, by omega⟩) = (m ((c : Thread nD τ).loc main_arg4) : S1024x1840.Idx → EReal) (ix2 d n) := by
  have e : V m c main_v1 = truncf (F := Ideal) .bf16
      (pad S1024x1920 ![0, 0] ![0, 80] ![0, 0] (m ((c : Thread nD τ).loc main_arg4)) (sitofp (F := Ideal) .f32 (constantI S_ 32 0#32)) pads_S1024x1840_S1024x1920_000_0800 h_S_) bitsLt_bf16_f32 := by
    simp only [V, V0, hostOps0, hostOps0_1, hostOps0_2, List.flatten_cons, List.flatten_nil, List.append_nil, List.cons_append, List.nil_append]
    after_results_simp <;> rfl
  rw [e]
  pointwise
  refine dif_pos fun a => ?_
  fin_cases a
  · show 0 ≤ d.val ∧ (d.val - 0) % 1 = 0 ∧ (d.val - 0) / 1 < 1024
    omega
  · show 0 ≤ n.val ∧ (n.val - 0) % 1 = 0 ∧ (n.val - 0) / 1 < 1840
    omega

/-- Row `r` of the block point `t` is on, among all the rows. -/
abbrev rowAt (t : Fin cfg0.N) (r : Fin 512) : Fin 16384 := ⟨t.val * 512 + r.val, by have := (idx t).2.2.2.2.2.2; omega⟩

/-- The rows a point normalises. -/
theorem pay1_block (c : Dev nD) (t : Fin cfg0.N) (r : Fin 512) (d : Fin 1024) :
    (k0_pay1 (F := Ideal) (iblk m c 0 t) (iblk m c 1 t) (iblk m c 2 t) (iblk m c 3 t) (ix2 r d) : EReal) = normed m c (rowAt t r) d := by
  obtain ⟨e0, e1, e2, e3, e4, e5, ht⟩ := idx t
  have h1 : (iblk m c 1 t : S1x1024.Idx → EReal) (ix2 0 d) = (m ((c : Thread nD τ).loc main_arg1) : S1024.Idx → EReal) (ix1 d) := by
    refine Eq.trans ?_ (V_nw m c d)
    blk_ext [iblk, e1]
  have h0 : ∀ e : Fin 1024, (iblk m c 0 t : S512x1024.Idx → EReal) (ix2 r e) = (m ((c : Thread nD τ).loc main_arg0) : S16384x1024.Idx → EReal) (ix2 (rowAt t r) e) := fun e => by
    blk_ext [iblk, V, e0]
  have h2 : (iblk m c 2 t : S1x1x1024.Idx → EReal) (ix3 0 0 d) = (m ((c : Thread nD τ).loc main_arg2) : S2x1x1024.Idx → EReal) (ix3 ⟨(rowAt t r).val / 8192, by omega⟩ 0 d) := by
    blk_ext [iblk, V, e2]
  have h3 : (iblk m c 3 t : S1x1x1024.Idx → EReal) (ix3 0 0 d) = (m ((c : Thread nD τ).loc main_arg3) : S2x1x1024.Idx → EReal) (ix3 ⟨(rowAt t r).val / 8192, by omega⟩ 0 d) := by
    blk_ext [iblk, V, e3]
  rw [pay1_at, h1, h2, h3, h0 d, funext h0]
  rfl

/-- What point `t` stores at row `r` of its block. -/
theorem point (c : Dev nD) (t : Fin cfg0.N) (r : Fin 512) (n : Fin 1920) :
    ((outsAt0 m c t : S512x1920.Idx → EReal) (ix2 r n) : EReal) = (padded m c : S16384x1920.Idx → EReal) (ix2 (rowAt t r) n) := by
  obtain ⟨e0, e1, e2, e3, e4, e5, ht⟩ := idx t
  have hs : outsAt0 m c t = k0_pay2 (F := Ideal) (k0_pay1 (F := Ideal) (iblk m c 0 t) (iblk m c 1 t) (iblk m c 2 t) (iblk m c 3 t)) (iblk m c 4 t) := by
    unfold outsAt0
    frame_out
  rw [hs, pay2_at]
  refine Finset.sum_congr rfl fun d _ => congrArg₂ (fun u v : EReal => u * v) (pay1_block m c t r d) ?_
  blk_ext [iblk, e4]

/-- The region's array after the run. -/
theorem final (c : Dev nD) : (dats m 0 c).arrAt 5 cfg0.N = padded m c := by
  refine (dats m 0 c).arrAt_eq_of_covers 5 _ (by decide +kernel) fun t _ y => ?_
  blk_simp
  rw [after0_5]
  obtain ⟨e0, e1, e2, e3, e4, e5, ht⟩ := idx t
  have h0 : (y (0 : Fin 2)).val < 512 := (y (0 : Fin 2)).isLt
  have hp := point m c t (y (0 : Fin 2)) (y (1 : Fin 2))
  refine Eq.trans ?_ (hp.trans ?_)
  · refine congrArg (outsAt0 m c t) (funext fun x => ?_)
    fin_cases x <;> rfl
  · refine congrArg (padded m c) ?_
    blk_ext [e5]

/-- The columns the caller keeps are the reference's. -/
theorem sliced (c : Dev nD) : (extractStridedSlice S16384x1840 ![0, 0] (padded m c) slices_S16384x1920_S16384x1840_0_0 : S16384x1840.Idx → EReal) = REF m c := by
  funext i
  obtain ⟨R, n, rfl⟩ : ∃ R n, i = ix2 R n := ⟨i 0, i 1, by funext x; fin_cases x <;> rfl⟩
  rw [REF, reference_at]
  have e : (extractStridedSlice S16384x1840 ![0, 0] (padded m c) slices_S16384x1920_S16384x1840_0_0 : S16384x1840.Idx → EReal) (ix2 R n) = (padded m c : S16384x1920.Idx → EReal) (ix2 R ⟨n.val, by omega⟩) := by
    pointwise
  rw [e]
  exact Finset.sum_congr rfl fun d _ => congrArg (fun u : EReal => _ * u) (V_weights m c d n)

/-- The keys and values of all the branches, from the padded product. -/
abbrev branches (A : S16384x1920.Idx → EReal) : S2x8192x6x2x64.Idx → EReal :=
  shapeCast S2x8192x6x2x64 (extractStridedSlice S16384x768 ![0, 1024] A slices_S16384x1920_S16384x768_0_1024 : S16384x768.Idx → EReal) shapeCasts_S16384x768_S2x8192x6x2x64

/-- The 768 columns of keys and values, split by branch, group and coordinate, are the reference's. -/
theorem split (c : Dev nD) : branches (padded m c) = ALL m c := by
  funext i
  have h0 : (i 0).val < 2 := (i 0).isLt
  have h1 : (i 1).val < 8192 := (i 1).isLt
  have h2 : (i 2).val < 6 := (i 2).isLt
  have h3 : (i 3).val < 2 := (i 3).isLt
  have h4 : (i 4).val < 64 := (i 4).isLt
  have ek : ((i 2).val * 2 + (i 3).val) * 64 + (i 4).val < 768 := by omega
  have e22 : Cert.Reference5Ideal.Read.idx_main_v22 i = ix3 ⟨(i 0).val, h0⟩ ⟨(i 1).val, h1⟩ ⟨((i 2).val * 2 + (i 3).val) * 64 + (i 4).val, ek⟩ := by
    funext a; refine Fin.ext ?_
    fin_cases a
    · show (((((i 0).val * 8192 + (i 1).val) * 6 + (i 2).val) * 2 + (i 3).val) * 64 + (i 4).val) / 6291456 = (i 0).val; omega
    · show (((((i 0).val * 8192 + (i 1).val) * 6 + (i 2).val) * 2 + (i 3).val) * 64 + (i 4).val) / 768 % 8192 = (i 1).val; omega
    · show (((((i 0).val * 8192 + (i 1).val) * 6 + (i 2).val) * 2 + (i 3).val) * 64 + (i 4).val) % 768 = ((i 2).val * 2 + (i 3).val) * 64 + (i 4).val; omega
  refine Eq.trans (shapeCast_apply _ shapeCasts_S16384x768_S2x8192x6x2x64 i
    (ix2 (Kernel2Ideal.Ffn.seqRow ⟨(i 0).val, h0⟩ ⟨(i 1).val, h1⟩) ⟨((i 2).val * 2 + (i 3).val) * 64 + (i 4).val, ek⟩) ?_) ?_
  · rewrite [Shape.rowMajor_val_two, Shape.rowMajor_val_five]
    show ((i 0).val * 8192 + (i 1).val) * 768 + (((i 2).val * 2 + (i 3).val) * 64 + (i 4).val) = ((((i 0).val * 8192 + (i 1).val) * 6 + (i 2).val) * 2 + (i 3).val) * 64 + (i 4).val
    omega
  · refine Eq.trans ?_ ((Cert.Reference5Ideal.Read.val_main_v22_apply _ _ _ _ _ i).trans ((congrArg _ e22).trans (v21_at _ _ _ _ _ _ _ _))).symm
    have e : ∀ (R : Fin 16384) (k : Fin 768), (extractStridedSlice S16384x768 ![0, 1024] (padded m c) slices_S16384x1920_S16384x768_0_1024 : S16384x768.Idx → EReal) (ix2 R k)
        = (padded m c : S16384x1920.Idx → EReal) (ix2 R ⟨1024 + k.val, by omega⟩) := fun R k => by
      pointwise
    rw [e]
    exact Finset.sum_congr rfl fun d _ => congrArg (fun u : EReal => _ * u) (V_weights m c d ⟨1024 + (((i 2).val * 2 + (i 3).val) * 64 + (i 4).val), by omega⟩)

/-- The branches that are cached are the reference's. -/
theorem cached (c : Dev nD) : (extractStridedSlice S2x8192x4x2x64 ![0, 0, 0, 0, 0] (branches (padded m c)) slices_S2x8192x6x2x64_S2x8192x4x2x64_0_0_0_0_0 : S2x8192x4x2x64.Idx → EReal) = CACHE m c := by
  rw [split, CACHE, Cert.Reference5Ideal.Read.val_main_v24]

/-- The last window's keys and values are the reference's. -/
theorem windowed (c : Dev nD) : (extractStridedSlice S2x512x2x2x64 ![0, 7680, 4, 0, 0] (branches (padded m c)) slices_S2x8192x6x2x64_S2x512x2x2x64_0_7680_4_0_0 : S2x512x2x2x64.Idx → EReal) = WINDOW m c := by
  rw [split, WINDOW, Cert.Reference5Ideal.Read.val_main_v25]

/-- The region's array as the operations after it read it. -/
theorem region (c : Dev nD) : Pipeline.withArrays (cfgs 0).spec c (V0 m c) (fun w => (dats m 0 c).arrAt w (cfgs 0).N) main_v3 = padded m c :=
  (Pipeline.withArrays_arr _ winFacts0.arr_inj c (V0 m c) (fun w => (dats m 0 c).arrAt w (cfgs 0).N) 5).trans (final m c)

/-- What the projection ends at, after the slice that follows the region. -/
theorem result (c : Dev nD) : Pipeline.afterTail₀ cfgs (dats m) 0 (V0 m) [hostOps1] c main_v6 = REF m c := by
  refine Eq.trans ?_ (sliced m c)
  unfold Pipeline.afterTail₀
  simp only [hostOps1, List.flatten_cons, List.flatten_nil, List.append_nil, List.cons_append, List.nil_append]
  after_results_simp
  exact congrArg (fun A : S16384x1920.Idx → EReal => extractStridedSlice S16384x1840 ![0, 0] A slices_S16384x1920_S16384x1840_0_0) (region m c)

/-- What the keys and values for the cache end at. -/
theorem result_cache (c : Dev nD) : Pipeline.afterTail₀ cfgs (dats m) 0 (V0 m) [hostOps1] c main_v7 = CACHE m c := by
  refine Eq.trans ?_ (cached m c)
  unfold Pipeline.afterTail₀
  simp only [hostOps1, List.flatten_cons, List.flatten_nil, List.append_nil, List.cons_append, List.nil_append]
  after_results_simp
  rw [region]
  generalize padded m c = A
  rfl

/-- What the keys and values of the last window end at. -/
theorem result_window (c : Dev nD) : Pipeline.afterTail₀ cfgs (dats m) 0 (V0 m) [hostOps1] c main_v8 = WINDOW m c := by
  refine Eq.trans ?_ (windowed m c)
  unfold Pipeline.afterTail₀
  simp only [hostOps1, List.flatten_cons, List.flatten_nil, List.append_nil, List.cons_append, List.nil_append]
  after_results_simp
  rw [region]
  generalize padded m c = A
  rfl

end Cert.Kernel5Ideal.ProjectionNsa

end
-- ==== Proof.ProjectionS5.lean ====
/- The same call at the state-space mixer's projection: 1024 columns of weights, nothing padded and nothing cut off. A point's rows are
   computed as in ProjectionNsa.lean, whose facts about them are used here. -/
module

public import proofs.«01_k».proof.Proof.Gen.Kernel6Ideal.Frame
public import proofs.«01_k».proof.Proof.Gen.Reference6Ideal.Read
public import proofs.«01_k».proof.Proof.ProjectionNsa

@[expose] public section

set_option maxRecDepth 16384

noncomputable section

namespace Cert.Kernel6Ideal.ProjectionS5

open Idealize.ShloMosaic
open Idealize.ShloMosaic.TcCoe Idealize.ShloMosaic.Tactic
open Cert.Trunk

section Reference
open Cert.Reference6Ideal Cert.Reference6Ideal.Read

/-- The reference at row `R`, column `n`: the normalised row is the other projections'. -/
theorem reference_at (x0 : FVec Ideal S16384x1024 .f32) (x1 : FVec Ideal S1024 .f32) (x2 x3 : FVec Ideal S2x1x1024 .f32) (x4 : FVec Ideal S1024x1024 .f32)
    (R : Fin 16384) (n : Fin 1024) :
    val_main_v21 (F := Ideal) x0 x1 x2 x3 x4 (ix2 R n) = ∑ d : Fin 1024, normMod x0 x1 x2 x3 R d * x4 (ix2 d n) := by
  have e21 : idx_main_v21 (ix2 R n) = ix3 ⟨R.val / 8192, by omega⟩ ⟨R.val % 8192, by omega⟩ n := by
    funext a; refine Fin.ext ?_
    fin_cases a
    · show (R.val * 1024 + n.val) / 8388608 = R.val / 8192; omega
    · show (R.val * 1024 + n.val) / 1024 % 8192 = R.val % 8192; omega
    · show (R.val * 1024 + n.val) % 1024 = n.val; omega
  rw [val_main_v21_apply, e21, val_main_v20_apply]
  refine Finset.sum_congr rfl fun d _ => congrArg₂ (fun u v : EReal => u * v) ?_ (congrArg x4 ?_)
  · refine Eq.trans (congrArg (val_main_v19 (F := Ideal) x0 x1 x2 x3) (funext fun a => Fin.ext ?_)) (Kernel3Ideal.Projection.v19_at_row x0 x1 x2 x3 R d)
    fin_cases a <;> rfl
  · funext a; fin_cases a <;> rfl

end Reference

open Cert.Kernel6Ideal Cert.Kernel6Ideal.Gen

theorem pay2_at (h : FVec Ideal S512x1024 .bf16) (w : FVec Ideal S1024x1024 .bf16) (r : Fin 512) (n : Fin 1024) :
    k0_pay2 (F := Ideal) h w (ix2 r n) = (∑ d : Fin 1024, h (ix2 r d) * w (ix2 d n) : EReal) := by
  pointwise [k0_pay2]

variable (m : (ℓ : Loc nD τ sig) → Buf (Elt Ideal) ℓ)

/-- The reference's result, over the kernel's arguments. -/
abbrev REF (c : Dev nD) : Buf (Elt Ideal) ((c : Thread nD τ).loc main_v2) :=
  Cert.Reference6Ideal.Read.val_main_v21 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The normalised and modulated row `R` at column `d`, over the kernel's arguments. -/
abbrev normed (c : Dev nD) (R : Fin 16384) (d : Fin 1024) : EReal :=
  normMod (m ((c : Thread nD τ).loc main_arg0)) (m ((c : Thread nD τ).loc main_arg1)) (m ((c : Thread nD τ).loc main_arg2)) (m ((c : Thread nD τ).loc main_arg3)) R d

/-- Which block each window is on: sixteen row blocks to a sequence. -/
theorem idx : ∀ t : Fin cfg0.N, win0_0.index t = ![t.val, 0] ∧ win0_1.index t = ![0, 0] ∧ win0_2.index t = ![t.val / 16, 0, 0] ∧ win0_3.index t = ![t.val / 16, 0, 0]
    ∧ win0_4.index t = ![0, 0] ∧ win0_5.index t = ![t.val, 0] ∧ t.val < 32 :=
  (by decide +kernel : ∀ t : Fin grid0.N, win0_0.index t = ![t.val, 0] ∧ win0_1.index t = ![0, 0] ∧ win0_2.index t = ![t.val / 16, 0, 0] ∧ win0_3.index t = ![t.val / 16, 0, 0]
    ∧ win0_4.index t = ![0, 0] ∧ win0_5.index t = ![t.val, 0] ∧ t.val < 32)

/-- The norm's weights as the region reads them: the argument as one row. -/
theorem V_nw (c : Dev nD) (d : Fin 1024) : (V m c main_v1 : S1x1024.Idx → EReal) (ix2 0 d) = (m ((c : Thread nD τ).loc main_arg1) : S1024.Idx → EReal) (ix1 d) := by
  have e : V m c main_v1 = shapeCast S1x1024 (m ((c : Thread nD τ).loc main_arg1) : S1024.Idx → EReal) shapeCasts_S1024_S1x1024 := by
    simp only [V, hostOps0]
    after_results_simp <;> rfl
  rw [e]
  pointwise

/-- The weights the region reads are the argument's, cast. -/
theorem V_weights (c : Dev nD) (d n : Fin 1024) :
    (V m c main_v0 : S1024x1024.Idx → EReal) (ix2 d n) = (m ((c : Thread nD τ).loc main_arg4) : S1024x1024.Idx → EReal) (ix2 d n) := by
  have e : V m c main_v0 = truncf (F := Ideal) .bf16 (m ((c : Thread nD τ).loc main_arg4) : FVec Ideal S1024x1024 .f32) bitsLt_bf16_f32 := by
    simp only [V, hostOps0]
    after_results_simp <;> rfl
  rw [e]
  rfl

/-- Row `r` of the block point `t` is on, among all the rows. -/
abbrev rowAt (t : Fin cfg0.N) (r : Fin 512) : Fin 16384 := ⟨t.val * 512 + r.val, by have := (idx t).2.2.2.2.2.2; omega⟩

/-- The rows a point normalises. -/
theorem pay1_block (c : Dev nD) (t : Fin cfg0.N) (r : Fin 512) (d : Fin 1024) :
    (k0_pay1 (F := Ideal) (iblk m c 0 t) (iblk m c 1 t) (iblk m c 2 t) (iblk m c 3 t) (ix2 r d) : EReal) = normed m c (rowAt t r) d := by
  obtain ⟨e0, e1, e2, e3, e4, e5, ht⟩ := idx t
  have h1 : (iblk m c 1 t : S1x1024.Idx → EReal) (ix2 0 d) = (m ((c : Thread nD τ).loc main_arg1) : S1024.Idx → EReal) (ix1 d) := by
    refine Eq.trans ?_ (V_nw m c d)
    blk_ext [iblk, e1]
  have h0 : ∀ e : Fin 1024, (iblk m c 0 t : S512x1024.Idx → EReal) (ix2 r e) = (m ((c : Thread nD τ).loc main_arg0) : S16384x1024.Idx → EReal) (ix2 (rowAt t r) e) := fun e => by
    blk_ext [iblk, V, e0]
  have h2 : (iblk m c 2 t : S1x1x1024.Idx → EReal) (ix3 0 0 d) = (m ((c : Thread nD τ).loc main_arg2) : S2x1x1024.Idx → EReal) (ix3 ⟨(rowAt t r).val / 8192, by omega⟩ 0 d) := by
    blk_ext [iblk, V, e2]
  have h3 : (iblk m c 3 t : S1x1x1024.Idx → EReal) (ix3 0 0 d) = (m ((c : Thread nD τ).loc main_arg3) : S2x1x1024.Idx → EReal) (ix3 ⟨(rowAt t r).val / 8192, by omega⟩ 0 d) := by
    blk_ext [iblk, V, e3]
  refine (Kernel5Ideal.ProjectionNsa.pay1_at _ _ _ _ r d).trans ?_
  rw [h1, h2, h3, h0 d, funext h0]
  rfl

/-- What point `t` stores at row `r` of its block. -/
theorem point (c : Dev nD) (t : Fin cfg0.N) (r : Fin 512) (n : Fin 1024) :
    ((outsAt0 m c t : S512x1024.Idx → EReal) (ix2 r n) : EReal) = (REF m c : S16384x1024.Idx → EReal) (ix2 (rowAt t r) n) := by
  obtain ⟨e0, e1, e2, e3, e4, e5, ht⟩ := idx t
  have hs : outsAt0 m c t = k0_pay2 (F := Ideal) (k0_pay1 (F := Ideal) (iblk m c 0 t) (iblk m c 1 t) (iblk m c 2 t) (iblk m c 3 t)) (iblk m c 4 t) := by
    unfold outsAt0
    frame_out
  rw [hs, pay2_at, REF, reference_at]
  refine Finset.sum_congr rfl fun d _ => congrArg₂ (fun u v : EReal => u * v) (pay1_block m c t r d) ?_
  refine Eq.trans ?_ (V_weights m c d n)
  blk_ext [iblk, e4]

/-- The output array after the run. -/
theorem final (c : Dev nD) : (dats m 0 c).arrAt 5 cfg0.N = REF m c := by
  refine (dats m 0 c).arrAt_eq_of_covers 5 _ (by decide +kernel) fun t _ y => ?_
  blk_simp
  rw [after0_5]
  obtain ⟨e0, e1, e2, e3, e4, e5, ht⟩ := idx t
  have h0 : (y (0 : Fin 2)).val < 512 := (y (0 : Fin 2)).isLt
  have hp := point m c t (y (0 : Fin 2)) (y (1 : Fin 2))
  refine Eq.trans ?_ (hp.trans ?_)
  · refine congrArg (outsAt0 m c t) (funext fun x => ?_)
    fin_cases x <;> rfl
  · refine congrArg (REF m c) ?_
    blk_ext [e5]

end Cert.Kernel6Ideal.ProjectionS5

end
-- ==== Proof.Compress.lean ====
/- The sparse attention's block compression: blocks of 32 rows, 16 apart, through a two-layer perceptron. The reference lays each block's
   rows end to end, 2048 numbers, and multiplies once; the kernel multiplies each chunk of 16 rows by both halves of the first weights, and
   adds to the first product the second one moved up by a chunk. -/
module

public import proofs.«01_k».proof.Proof.Gen.Kernel7Ideal.Frame
public import proofs.«01_k».proof.Proof.Gen.Reference7Ideal.Read
public import Idealize.ShloMosaic.Lib.Pipeline.ValueKit
public import Idealize.ShloMosaic.Lib.ValueIdxRank6
public import Idealize.ShloMosaic.Lib.IdealHost

@[expose] public section

set_option maxRecDepth 16384

noncomputable section

namespace Cert.Kernel7Ideal.Compress

open Idealize.ShloMosaic
open Idealize.ShloMosaic.TcCoe Idealize.ShloMosaic.Tactic

/-- The smooth rectifier in its tanh form, with the constants as both programs write them. -/
def gelu (x : EReal) : EReal :=
  x * (Ideal.ofBits .f32 0x3F000000#32 * (Ideal.ofBits .f32 0x3F800000#32 + Ideal.tanh (Ideal.ofBits .f32 0x3F4C422A#32 * (x + Ideal.ofBits .f32 0x3D372713#32 * (x * x * x)))))

/-- Number `k` of the block that starts at row `s`: row `s + k / 64`, dimension `k % 64`, with the position's embedding added. -/
def entry (kv : (⟨5, ![2, 8192, 2, 2, 64]⟩ : Shape).Idx → EReal) (pe : (⟨3, ![2, 32, 64]⟩ : Shape).Idx → EReal) (c b g : Fin 2) (n : Fin 511) (k : Fin 2048) : EReal :=
  kv (ix5 b ⟨n.val * 16 + k.val / 64, by omega⟩ c g ⟨k.val % 64, by omega⟩) + pe (ix3 c ⟨k.val / 64, by omega⟩ ⟨k.val % 64, by omega⟩)

section Reference
open Cert.Reference7Ideal Cert.Reference7Ideal.Read

variable (x0 : FVec Ideal S2x8192x2x2x64 .f32) (x1 : FVec Ideal S2x32x64 .f32) (x2 : FVec Ideal S2x2048x128 .f32) (x3 : FVec Ideal S2x128x64 .f32)

/-- The chunks of sixteen rows. -/
theorem v0_at (b : Fin 2) (n : Fin 512) (s : Fin 16) (c g : Fin 2) (e : Fin 64) :
    val_main_v0 (F := Ideal) x0 (ValueIdx.ix6 b n s c g e) = x0 (ix5 b ⟨n.val * 16 + s.val, by omega⟩ c g e) := by
  unfold val_main_v0
  refine shapeCast_apply x0 _ _ _ ?_
  rw [Shape.rowMajor_val_five, Shape.rowMajor_val_six]
  show ((((b.val * 8192 + (n.val * 16 + s.val)) * 2 + c.val) * 2 + g.val) * 64 + e.val) = (((((b.val * 512 + n.val) * 16 + s.val) * 2 + c.val) * 2 + g.val) * 64 + e.val)
  omega

/-- Two chunks joined: the rows of one block. -/
theorem v3_at (b : Fin 2) (n : Fin 511) (l : Fin 32) (c g : Fin 2) (e : Fin 64) :
    val_main_v3 (F := Ideal) x0 (ValueIdx.ix6 b n l c g e) = x0 (ix5 b ⟨n.val * 16 + l.val, by omega⟩ c g e) := by
  unfold val_main_v3
  by_cases h : l.val < 16
  · refine (concatenate_pair_apply_left (t := S2x511x32x2x2x64) (s₁ := S2x511x16x2x2x64) (s₂ := S2x511x16x2x2x64) 2 _ _ _ _ rfl (ValueIdx.ix6 b n ⟨l.val, h⟩ c g e) fun a => ?_).trans ?_
    · fin_cases a <;> rfl
    · rw [val_main_v1_apply]
      refine Eq.trans (congrArg (val_main_v0 (F := Ideal) x0) (funext fun a => ?_)) (v0_at x0 b ⟨n.val, by omega⟩ ⟨l.val, h⟩ c g e)
      fin_cases a <;> rfl
  · refine (concatenate_pair_apply_right (t := S2x511x32x2x2x64) (s₁ := S2x511x16x2x2x64) (s₂ := S2x511x16x2x2x64) 2 _ _ _ _ rfl rfl (ValueIdx.ix6 b n ⟨l.val - 16, by omega⟩ c g e) (fun a ha => ?_) ?_).trans ?_
    · fin_cases a <;> first | rfl | exact absurd rfl ha
    · show l.val - 16 + 16 = l.val; omega
    · rw [val_main_v2_apply]
      refine Eq.trans (congrArg (val_main_v0 (F := Ideal) x0) (funext fun a => ?_)) ((v0_at x0 b ⟨1 + n.val, by omega⟩ ⟨l.val - 16, by omega⟩ c g e).trans (congrArg x0 ?_))
      · fin_cases a <;> rfl
      · refine congrArg (fun r : Fin 8192 => ix5 b r c g e) (Fin.ext ?_)
        show (1 + n.val) * 16 + (l.val - 16) = n.val * 16 + l.val; omega

/-- A block's rows with the embeddings, laid end to end. -/
theorem v10_at (b : Fin 2) (n : Fin 511) (c g : Fin 2) (k : Fin 2048) : val_main_v10 (F := Ideal) x0 x1 (ix5 b n c g k) = entry x0 x1 c b g n k := by
  unfold val_main_v10
  refine (shapeCast_apply _ _ _ (ValueIdx.ix6 b n c g ⟨k.val / 64, by omega⟩ ⟨k.val % 64, by omega⟩) ?_).trans ?_
  · rw [Shape.rowMajor_val_five, Shape.rowMajor_val_six]
    show (((((b.val * 511 + n.val) * 2 + c.val) * 2 + g.val) * 32 + k.val / 64) * 64 + k.val % 64) = ((((b.val * 511 + n.val) * 2 + c.val) * 2 + g.val) * 2048 + k.val)
    omega
  · rw [val_main_v9_apply, val_main_v8_apply, val_main_v7_apply, val_main_v6_apply, val_main_v5_apply, val_main_v4_apply]
    refine congrArg₂ (fun u v : EReal => u + v) ?_ (congrArg x1 (funext fun a => ?_))
    · refine Eq.trans (congrArg (val_main_v3 (F := Ideal) x0) (funext fun a => ?_)) (v3_at x0 b n ⟨k.val / 64, by omega⟩ c g ⟨k.val % 64, by omega⟩)
      fin_cases a <;> rfl
    · fin_cases a <;> rfl

/-- The first product. -/
theorem v12_at (b : Fin 2) (n : Fin 511) (c g : Fin 2) (j : Fin 128) :
    val_main_v12 (F := Ideal) x0 x1 x2 (ix5 b n c g j) = ∑ k : Fin 2048, entry x0 x1 c b g n k * x2 (ix3 c k j) := by
  rw [val_main_v12_apply, val_main_v11_apply]
  refine Finset.sum_congr rfl fun k _ => (EReal.mul_comm _ _).trans (congrArg₂ (fun u v : EReal => u * v) ?_ (congrArg x2 (funext fun a => ?_)))
  · refine Eq.trans (congrArg (val_main_v10 (F := Ideal) x0 x1) (funext fun a => ?_)) (v10_at x0 x1 b n c g k)
    fin_cases a <;> rfl
  · fin_cases a <;> rfl

theorem v25_at (i : S2x511x2x2x128.Idx) : val_main_v25 (F := Ideal) x0 x1 x2 i = gelu (val_main_v12 (F := Ideal) x0 x1 x2 i) := by
  rw [val_main_v25_apply, val_main_v24_apply, val_main_v23_apply, val_main_cst_2_apply, val_main_v22_apply, val_main_v21_apply, val_main_cst_1_apply, val_main_v20_apply,
    val_main_v19_apply, val_main_v18_apply, val_main_cst_0_apply, val_main_v17_apply, val_main_v16_apply, val_main_v15_apply, val_main_cst_apply, val_main_v14_apply, val_main_v13_apply]
  rfl

/-- The reference's result for block `n`. -/
theorem reference_at (c b g : Fin 2) (n : Fin 511) (h : Fin 64) :
    val_main_v27 (F := Ideal) x0 x1 x2 x3 (ix5 c b g n h) = ∑ j : Fin 128, gelu (∑ k : Fin 2048, entry x0 x1 c b g n k * x2 (ix3 c k j)) * x3 (ix3 c j h) := by
  rw [val_main_v27_apply, val_main_v26_apply]
  refine Finset.sum_congr rfl fun j _ => (EReal.mul_comm _ _).trans (congrArg₂ (fun u v : EReal => u * v) ?_ (congrArg x3 (funext fun a => ?_)))
  · rw [v25_at, ← v12_at]
    refine congrArg (fun i => gelu (val_main_v12 (F := Ideal) x0 x1 x2 i)) (funext fun a => ?_)
    fin_cases a <;> rfl
  · fin_cases a <;> rfl

end Reference

open Cert.Kernel7Ideal Cert.Kernel7Ideal.Gen

/-- One chunk's product with half of the first weights. -/
abbrev half (x : FVec Ideal S1x1x512x1024 .bf16) (p : FVec Ideal S1x1x1024 .f32) (w : FVec Ideal S1x1024x128 .bf16) (n : Fin 512) (j : Fin 128) : EReal :=
  ∑ d : Fin 1024, (x (ix4 0 0 n d) + p (ix3 0 0 d)) * w (ix3 0 d j)

theorem pay2_at (x : FVec Ideal S1x1x512x1024 .bf16) (p0 p1 : FVec Ideal S1x1x1024 .f32) (w0 w1 : FVec Ideal S1x1024x128 .bf16) (n : Fin 512) (j : Fin 128) :
    (k0_pay2 (F := Ideal) x p0 w0 p1 w1 (ix2 n j) : EReal) = gelu (half x p0 w0 n j + half x p1 w1 ⟨(n.val + 512 - 511) % 512, Nat.mod_lt _ (by decide)⟩ j) := by
  pointwise [k0_pay2, gelu, half]

theorem pay1_at (h : FVec Ideal S512x128 .f32) (w : FVec Ideal S1x128x64 .bf16) (n : Fin 512) (e : Fin 64) :
    (k0_pay1 (F := Ideal) h w (ix4 0 0 n e) : EReal) = ∑ j : Fin 128, h (ix2 n j) * w (ix3 0 j e) := by
  pointwise [k0_pay1]

variable (m : (ℓ : Loc nD τ sig) → Buf (Elt Ideal) ℓ)

abbrev KV (c : Dev nD) : S2x8192x2x2x64.Idx → EReal := m ((c : Thread nD τ).loc main_arg0)
abbrev PE (c : Dev nD) : S2x32x64.Idx → EReal := m ((c : Thread nD τ).loc main_arg1)
abbrev W1 (c : Dev nD) : S2x2048x128.Idx → EReal := m ((c : Thread nD τ).loc main_arg2)
abbrev W2 (c : Dev nD) : S2x128x64.Idx → EReal := m ((c : Thread nD τ).loc main_arg3)

/-- The reference's result, over the kernel's arguments. -/
abbrev REF (c : Dev nD) : Buf (Elt Ideal) ((c : Thread nD τ).loc main_v10) := Cert.Reference7Ideal.Read.val_main_v27 (F := Ideal) (KV m c) (PE m c) (W1 m c) (W2 m c)

/-- The chunks as the region reads them: keys or values, sequence and group, chunk, sixteen rows end to end. -/
theorem V_v3 (c : Dev nD) (a : Fin 2) (q : Fin 4) (n : Fin 512) (d : Fin 1024) :
    (V m c main_v3 : S2x4x512x1024.Idx → EReal) (ix4 a q n d) = KV m c (ix5 ⟨q.val / 2, by omega⟩ ⟨n.val * 16 + d.val / 64, by omega⟩ a ⟨q.val % 2, by omega⟩ ⟨d.val % 64, by omega⟩) := by
  have e : V m c main_v3 = shapeCast S2x4x512x1024 (transpose S2x2x2x512x16x64 [3, 0, 4, 1, 2, 5] (shapeCast S2x512x16x2x2x64 (truncf (F := Ideal) .bf16 (KV m c : FVec Ideal S2x8192x2x2x64 .f32) bitsLt_bf16_f32)
      shapeCasts_S2x8192x2x2x64_S2x512x16x2x2x64) transposes_S2x512x16x2x2x64_S2x2x2x512x16x64_3_0_4_1_2_5) shapeCasts_S2x2x2x512x16x64_S2x4x512x1024 := by
    simp only [V, V0, hostOps0, List.flatten_cons, List.flatten_nil, List.append_nil]
    after_results_simp <;> rfl
  rw [e]
  refine (shapeCast_apply _ _ _ (ValueIdx.ix6 a ⟨q.val / 2, by omega⟩ ⟨q.val % 2, by omega⟩ n ⟨d.val / 64, by omega⟩ ⟨d.val % 64, by omega⟩) ?_).trans ?_
  · rw [Shape.rowMajor_val_four, Shape.rowMajor_val_six]
    show (((((a.val * 2 + q.val / 2) * 2 + q.val % 2) * 512 + n.val) * 16 + d.val / 64) * 64 + d.val % 64) = (((a.val * 4 + q.val) * 512 + n.val) * 1024 + d.val)
    omega
  · refine (transpose_apply [3, 0, 4, 1, 2, 5] _ _ _ (ValueIdx.ix6 ⟨q.val / 2, by omega⟩ n ⟨d.val / 64, by omega⟩ a ⟨q.val % 2, by omega⟩ ⟨d.val % 64, by omega⟩) fun b => ?_).trans ?_
    · fin_cases b <;> rfl
    · exact Compress.v0_at (KV m c) ⟨q.val / 2, by omega⟩ n ⟨d.val / 64, by omega⟩ a ⟨q.val % 2, by omega⟩ ⟨d.val % 64, by omega⟩

/-- The embeddings as the region reads them: two rows of sixteen positions each. -/
theorem V_v4 (c : Dev nD) (a p : Fin 2) (d : Fin 1024) :
    (V m c main_v4 : S2x2x1024.Idx → EReal) (ix3 a p d) = PE m c (ix3 a ⟨p.val * 16 + d.val / 64, by omega⟩ ⟨d.val % 64, by omega⟩) := by
  have e : V m c main_v4 = shapeCast S2x2x1024 (PE m c) shapeCasts_S2x32x64_S2x2x1024 := by
    simp only [V, V0, hostOps0, List.flatten_cons, List.flatten_nil, List.append_nil]
    after_results_simp <;> rfl
  rw [e]
  refine shapeCast_apply _ _ _ _ ?_
  rw [Shape.rowMajor_val_three, Shape.rowMajor_val_three]
  show (a.val * 32 + (p.val * 16 + d.val / 64)) * 64 + d.val % 64 = (a.val * 2 + p.val) * 1024 + d.val
  omega

/-- The two weights as the region reads them: the arguments', cast. -/
theorem V_v5 (c : Dev nD) : (V m c main_v5 : S2x2048x128.Idx → EReal) = W1 m c := by
  simp only [V, V0, hostOps0, List.flatten_cons, List.flatten_nil, List.append_nil]
  after_results_simp <;> rfl
theorem V_v6 (c : Dev nD) : (V m c main_v6 : S2x128x64.Idx → EReal) = W2 m c := by
  simp only [V, V0, hostOps0, List.flatten_cons, List.flatten_nil, List.append_nil]
  after_results_simp <;> rfl

/-- Which block each window is on. -/
theorem idx : ∀ t : Fin cfg0.N, win0_0.index t = ![t.val / 4, t.val % 4, 0, 0] ∧ win0_1.index t = ![t.val / 4, 0, 0] ∧ win0_2.index t = ![t.val / 4, 0, 0] ∧ win0_3.index t = ![t.val / 4, 0, 0]
    ∧ win0_4.index t = ![t.val / 4, t.val % 4, 0, 0] ∧ t.val < 8 :=
  (by decide +kernel : ∀ t : Fin grid0.N, win0_0.index t = ![t.val / 4, t.val % 4, 0, 0] ∧ win0_1.index t = ![t.val / 4, 0, 0] ∧ win0_2.index t = ![t.val / 4, 0, 0] ∧ win0_3.index t = ![t.val / 4, 0, 0]
    ∧ win0_4.index t = ![t.val / 4, t.val % 4, 0, 0] ∧ t.val < 8)

/-- Chunk `n` of sequence and group `q`, with the embeddings of half `p`, times the weights of that half. -/
def part (c : Dev nD) (a : Fin 2) (q : Fin 4) (p : Fin 2) (n : Fin 512) (j : Fin 128) : EReal :=
  ∑ d : Fin 1024, (KV m c (ix5 ⟨q.val / 2, by omega⟩ ⟨n.val * 16 + d.val / 64, by omega⟩ a ⟨q.val % 2, by omega⟩ ⟨d.val % 64, by omega⟩)
    + PE m c (ix3 a ⟨p.val * 16 + d.val / 64, by omega⟩ ⟨d.val % 64, by omega⟩)) * W1 m c (ix3 a ⟨p.val * 1024 + d.val, by omega⟩ j)

/-- What the region's array ends at; at the last chunk the next one is the first. -/
def target (c : Dev nD) : Buf (Elt Ideal) ((c : Thread nD τ).loc main_v7) :=
  fun i : S2x4x512x64.Idx => (∑ j : Fin 128, gelu (part m c (i 0) (i 1) 0 (i 2) j + part m c (i 0) (i 1) 1 ⟨((i 2).val + 512 - 511) % 512, Nat.mod_lt _ (by decide)⟩ j) * W2 m c (ix3 (i 0) j (i 3)) : EReal)

abbrev kvAt (t : Fin cfg0.N) : Fin 2 := ⟨t.val / 4, by have := (idx t).2.2.2.2.2; omega⟩
abbrev seqAt (t : Fin cfg0.N) : Fin 4 := ⟨t.val % 4, by omega⟩

/-- What point `t` stores. -/
theorem point (c : Dev nD) (t : Fin cfg0.N) (n : Fin 512) (e : Fin 64) :
    (out0_4 (F := Ideal) (iblk m c 0 t) (iblk m c 1 t) (iblk m c 2 t) (iblk m c 3 t) (ix4 0 0 n e) : EReal) = (target m c : S2x4x512x64.Idx → EReal) (ix4 (kvAt t) (seqAt t) n e) := by
  obtain ⟨e0, e1, e2, e3, e4, ht⟩ := idx t
  have hx : ∀ (r : Fin 512) (d : Fin 1024), (iblk m c 0 t : S1x1x512x1024.Idx → EReal) (ix4 0 0 r d)
      = KV m c (ix5 ⟨(seqAt t).val / 2, by omega⟩ ⟨r.val * 16 + d.val / 64, by omega⟩ (kvAt t) ⟨(seqAt t).val % 2, by omega⟩ ⟨d.val % 64, by omega⟩) := fun r d => by
    refine Eq.trans ?_ (V_v3 m c (kvAt t) (seqAt t) r d)
    blk_ext [iblk, e0]
  have hp : ∀ (p : Fin 2) (d : Fin 1024), (iblk m c 1 t : S1x2x1024.Idx → EReal) (ix3 0 p d) = PE m c (ix3 (kvAt t) ⟨p.val * 16 + d.val / 64, by omega⟩ ⟨d.val % 64, by omega⟩) := fun p d => by
    refine Eq.trans ?_ (V_v4 m c (kvAt t) p d)
    blk_ext [iblk, e1]
  have hw : ∀ (k : Fin 2048) (j : Fin 128), (iblk m c 2 t : S1x2048x128.Idx → EReal) (ix3 0 k j) = W1 m c (ix3 (kvAt t) k j) := fun k j => by
    rw [← V_v5]; blk_ext [iblk, e2]
  have hv : ∀ (j : Fin 128) (f : Fin 64), (iblk m c 3 t : S1x128x64.Idx → EReal) (ix3 0 j f) = W2 m c (ix3 (kvAt t) j f) := fun j f => by
    rw [← V_v6]; blk_ext [iblk, e3]
  generalize (iblk m c 0 t : S1x1x512x1024.Idx → EReal) = x at hx ⊢
  generalize (iblk m c 1 t : S1x2x1024.Idx → EReal) = p at hp ⊢
  generalize (iblk m c 2 t : S1x2048x128.Idx → EReal) = w at hw ⊢
  generalize (iblk m c 3 t : S1x128x64.Idx → EReal) = v at hv ⊢
  frame_out
  rw [pay1_at]
  refine Finset.sum_congr rfl fun j _ => congrArg₂ (fun u v : EReal => u * v) ?_ (hv j e)
  rw [pay2_at]
  refine congrArg gelu (congrArg₂ (fun u v : EReal => u + v) ?_ ?_)
  · refine Finset.sum_congr rfl fun d _ => congrArg₂ (fun u v : EReal => u * v) (congrArg₂ (fun u v : EReal => u + v) (hx n d) ((Eq.trans ?_ (hp 0 d)))) (Eq.trans ?_ (hw ⟨0 * 1024 + d.val, by omega⟩ j))
    · refine congrArg p (funext fun a => Fin.ext ?_)
      fin_cases a <;> first | rfl | exact (show 0 + 1 * d.val = d.val by omega)
    · refine congrArg w (funext fun a => Fin.ext ?_)
      fin_cases a <;> first | rfl | exact (show 0 + 1 * d.val = 0 * 1024 + d.val by omega) | exact (show 0 + 1 * j.val = j.val by omega)
  · refine Finset.sum_congr rfl fun d _ => congrArg₂ (fun u v : EReal => u * v) (congrArg₂ (fun u v : EReal => u + v) (hx _ d) ((Eq.trans ?_ (hp 1 d)))) (Eq.trans ?_ (hw ⟨1 * 1024 + d.val, by omega⟩ j))
    · refine congrArg p (funext fun a => Fin.ext ?_)
      fin_cases a <;> first | rfl | exact (show 0 + 1 * d.val = d.val by omega)
    · refine congrArg w (funext fun a => Fin.ext ?_)
      fin_cases a <;> first | rfl | exact (show 1024 + 1 * d.val = 1 * 1024 + d.val by omega) | exact (show 0 + 1 * j.val = j.val by omega)

/-- The region's array after the run. -/
theorem final (c : Dev nD) : (dats m 0 c).arrAt 4 cfg0.N = target m c := by
  refine (dats m 0 c).arrAt_eq_of_covers 4 _ (by decide +kernel) fun t _ y => ?_
  blk_simp
  rw [after0_4]
  obtain ⟨e0, e1, e2, e3, e4, ht⟩ := idx t
  have h0 : (y (0 : Fin 4)).val < 1 := (y (0 : Fin 4)).isLt
  have h1 : (y (1 : Fin 4)).val < 1 := (y (1 : Fin 4)).isLt
  refine Eq.trans ?_ ((point m c t (y (2 : Fin 4)) (y (3 : Fin 4))).trans ?_)
  · refine congrArg (out0_4 (F := Ideal) (iblk m c 0 t) (iblk m c 1 t) (iblk m c 2 t) (iblk m c 3 t)) (funext fun x => Fin.ext ?_)
    fin_cases x
    · show (y (0 : Fin 4)).val = 0; omega
    · show (y (1 : Fin 4)).val = 0; omega
    · rfl
    · rfl
  · refine congrArg (target m c) ?_
    blk_ext [e4]

/-- The two chunks' parts make up the block's product: the first 1024 of its numbers are the first chunk's, the others the second's. -/
theorem block (c : Dev nD) (a b g : Fin 2) (n : Fin 511) (j : Fin 128) :
    part m c a ⟨b.val * 2 + g.val, by omega⟩ 0 ⟨n.val, by omega⟩ j + part m c a ⟨b.val * 2 + g.val, by omega⟩ 1 ⟨(n.val + 512 - 511) % 512, Nat.mod_lt _ (by decide)⟩ j
      = ∑ k : Fin 2048, entry (KV m c) (PE m c) a b g n k * W1 m c (ix3 a k j) := by
  rw [Fin.sum_univ_two_halves 1024 1024 rfl]
  have hb : (⟨(b.val * 2 + g.val) / 2, by omega⟩ : Fin 2) = b := Fin.ext (show (b.val * 2 + g.val) / 2 = b.val by omega)
  have hg : (⟨(b.val * 2 + g.val) % 2, by omega⟩ : Fin 2) = g := Fin.ext (show (b.val * 2 + g.val) % 2 = g.val by omega)
  unfold part entry
  dsimp only
  rw [hb, hg]
  have h : ∀ (r r' : Fin 8192) (l l' : Fin 32) (e e' : Fin 64) (k k' : Fin 2048), r = r' → l = l' → e = e' → k = k' →
      (KV m c (ix5 b r a g e) + PE m c (ix3 a l e)) * W1 m c (ix3 a k j) = (KV m c (ix5 b r' a g e') + PE m c (ix3 a l' e')) * W1 m c (ix3 a k' j) := by
    rintro r _ l _ e _ k _ rfl rfl rfl rfl
    rfl
  refine congrArg₂ (fun u v : EReal => u + v) (Finset.sum_congr rfl fun d _ => ?_) (Finset.sum_congr rfl fun d _ => ?_)
  · exact h _ _ _ _ _ _ _ _ rfl (Fin.ext (show 0 * 16 + d.val / 64 = d.val / 64 by omega)) rfl (Fin.ext (show 0 * 1024 + d.val = d.val by omega))
  · exact h _ _ _ _ _ _ _ _ (Fin.ext (show (n.val + 512 - 511) % 512 * 16 + d.val / 64 = n.val * 16 + (1024 + d.val) / 64 by omega))
      (Fin.ext (show 1 * 16 + d.val / 64 = (1024 + d.val) / 64 by omega)) (Fin.ext (show d.val % 64 = (1024 + d.val) % 64 by omega))
      (Fin.ext (show 1 * 1024 + d.val = 1024 + d.val by omega))

/-- The blocks the caller keeps are the reference's. -/
theorem sliced (c : Dev nD) : (extf (F := Ideal) .f32 (extractStridedSlice S2x2x2x511x64 ![0, 0, 0, 0, 0] (shapeCast S2x2x2x512x64 (target m c) shapeCasts_S2x4x512x64_S2x2x2x512x64 : FVec Ideal S2x2x2x512x64 .bf16)
    slices_S2x2x2x512x64_S2x2x2x511x64_0_0_0_0_0) bitsLt_bf16_f32 : S2x2x2x511x64.Idx → EReal) = REF m c := by
  funext i
  obtain ⟨a, b, g, n, h, rfl⟩ : ∃ a b g n h, i = ix5 a b g n h := ⟨i 0, i 1, i 2, i 3, i 4, by funext x; fin_cases x <;> rfl⟩
  rw [REF, reference_at]
  change extractStridedSlice S2x2x2x511x64 ![0, 0, 0, 0, 0] (shapeCast S2x2x2x512x64 (target m c) shapeCasts_S2x4x512x64_S2x2x2x512x64) slices_S2x2x2x512x64_S2x2x2x511x64_0_0_0_0_0 (ix5 a b g n h) = _
  refine (extractStridedSlice_apply ![0, 0, 0, 0, 0] _ slices_S2x2x2x512x64_S2x2x2x511x64_0_0_0_0_0 (ix5 a b g n h) (ix5 a b g ⟨n.val, by omega⟩ h) fun x => ?_).trans ?_
  · fin_cases x <;> exact (Nat.zero_add _).symm
  refine (shapeCast_apply _ _ _ (ix4 a ⟨b.val * 2 + g.val, by omega⟩ ⟨n.val, by omega⟩ h) ?_).trans ?_
  · rw [Shape.rowMajor_val_four, Shape.rowMajor_val_five]
    show (((a.val * 4 + (b.val * 2 + g.val)) * 512 + n.val) * 64 + h.val) = ((((a.val * 2 + b.val) * 2 + g.val) * 512 + n.val) * 64 + h.val)
    omega
  · exact Eq.trans (α := EReal) (Finset.sum_congr rfl fun j _ => congrArg (fun u : EReal => gelu u * W2 m c (ix3 a j h)) (block m c a b g n j)) rfl

/-- What the caller's result ends at, after the operations that follow the region. -/
theorem result (c : Dev nD) : Pipeline.afterTail₀ cfgs (dats m) 0 (V0 m) [hostOps1] c main_v10 = REF m c := by
  refine Eq.trans ?_ (sliced m c)
  rw [← final m c]
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v7) = (dats m 0 c).arrAt 4 cfg0.N :=
    Pipeline.withArrays_arr _ winFacts0.arr_inj c (V0 m c) (fun w => (dats m 0 c).arrAt w (cfgs 0).N) 4
  rw [e]
  generalize (dats m 0 c).arrAt 4 cfg0.N = A
  rfl

end Cert.Kernel7Ideal.Compress

end
-- ==== Proof.SampleNsa.lean ====
/- The sample's projection in the sparse attention: 128 rows in one block, the 1920 padded columns in three tiles, the normalised rows
   carried in scratch memory from the first tile to the others. Of the product the caller keeps the 1840 columns, the new keys and values,
   and the window moved on by the four new positions. -/
module

public import proofs.«01_k».proof.Proof.Gen.Kernel8Ideal.Frame
public import proofs.«01_k».proof.Proof.Gen.Reference8Ideal.Read
public import proofs.«01_k».proof.Proof.NormMod
public import Idealize.ShloMosaic.Lib.Pipeline.ReadBack

@[expose] public section

set_option maxRecDepth 16384

noncomputable section

namespace Cert.Kernel8Ideal.SampleNsa

open Idealize.ShloMosaic
open Idealize.ShloMosaic.TcCoe Idealize.ShloMosaic.Tactic
open Cert.Trunk

/-- Position `s` of sequence `b`, among all the rows. -/
abbrev seqRow (b : Fin 32) (s : Fin 4) : Fin 128 := ⟨b.val * 4 + s.val, by omega⟩

section Reference
open Cert.Reference8Ideal Cert.Reference8Ideal.Read

variable (x0 : FVec Ideal S128x1024 .f32) (x1 : FVec Ideal S1024 .f32) (x2 x3 : FVec Ideal S32x1024 .f32) (x4 : FVec Ideal S1024x1840 .f32)

theorem v0_at (b : Fin 32) (s : Fin 4) (d : Fin 1024) : val_main_v0 (F := Ideal) x0 (ix3 b s d) = x0 (ix2 (seqRow b s) d) := by
  rw [val_main_v0_apply]
  blk_ext []

theorem v2_at (b : Fin 32) (s : Fin 4) : val_main_v2 (F := Ideal) x0 (ix2 b s) = ∑ e : Fin 1024, x0 (ix2 (seqRow b s) e) * x0 (ix2 (seqRow b s) e) := by
  rw [val_main_v2_apply, val_main_cst_apply]
  refine Eq.trans (congrArg (fun u : EReal => u + _) Ideal.ofBits_zero_f32) ?_
  refine (zero_add _).trans (Finset.sum_congr rfl fun e _ => ?_)
  have e1 : idx_main_v2 (ix2 b s) e = ix3 b s e := by funext a; fin_cases a <;> rfl
  rw [e1, val_main_v1_apply, v0_at]
  rfl

theorem v8_at (b : Fin 32) (s : Fin 4) : val_main_v8 (F := Ideal) x0 (ix3 b s 0) = invRms (fun e => x0 (ix2 (seqRow b s) e)) := by
  have e1 : idx_main_v3 (ix3 b s 0) = ix2 b s := by funext a; fin_cases a <;> rfl
  rw [val_main_v8_apply, val_main_v7_apply, val_main_v6_apply, val_main_v5_apply, val_main_v4_apply, val_main_v3_apply, e1, v2_at]
  rfl

/-- The reference's normalised and modulated row. -/
theorem v21_at (b : Fin 32) (s : Fin 4) (d : Fin 1024) : val_main_v21 (F := Ideal) x0 x1 x2 x3 (ix3 b s d) = normModSample x0 x1 x2 x3 (seqRow b s) d := by
  have e9 : idx_main_v9 (ix3 b s d) = ix3 b s 0 := by funext a; fin_cases a <;> rfl
  have e12 : idx_main_v11 (idx_main_v12 (ix3 b s d)) = ix1 d := by funext a; fin_cases a; rfl
  have e17 : idx_main_v14 (idx_main_v17 (ix3 b s d)) = ix2 b d := by funext a; fin_cases a <;> rfl
  have e20 : idx_main_v19 (idx_main_v20 (ix3 b s d)) = ix2 b d := by funext a; fin_cases a <;> rfl
  have hb : (⟨(seqRow b s).val / 4, by omega⟩ : Fin 32) = b := Fin.ext (show (b.val * 4 + s.val) / 4 = b.val by omega)
  rw [val_main_v21_apply, val_main_v18_apply, val_main_v13_apply, val_main_v10_apply, val_main_v9_apply, val_main_v12_apply, val_main_v11_apply, val_main_v17_apply,
    val_main_v16_apply, val_main_v14_apply, val_main_v20_apply, val_main_v19_apply, e9, e12, e17, e20, v8_at, v0_at]
  unfold normModSample
  rw [hb]
  rfl

/-- The reference's product at position `s` of sequence `b`, column `n`. -/
theorem v22_at (b : Fin 32) (s : Fin 4) (n : Fin 1840) :
    val_main_v22 (F := Ideal) x0 x1 x2 x3 x4 (ix3 b s n) = ∑ d : Fin 1024, normModSample x0 x1 x2 x3 (seqRow b s) d * x4 (ix2 d n) := by
  rw [val_main_v22_apply]
  refine Finset.sum_congr rfl fun d _ => congrArg₂ (fun u v : EReal => u * v) ?_ (congrArg x4 ?_)
  · refine Eq.trans (congrArg (val_main_v21 (F := Ideal) x0 x1 x2 x3) (funext fun a => Fin.ext ?_)) (v21_at x0 x1 x2 x3 b s d)
    fin_cases a <;> rfl
  · funext a; fin_cases a <;> rfl

/-- The reference at row `R`, column `n`. -/
theorem reference_at (R : Fin 128) (n : Fin 1840) :
    val_main_v25 (F := Ideal) x0 x1 x2 x3 x4 (ix2 R n) = ∑ d : Fin 1024, normModSample x0 x1 x2 x3 R d * x4 (ix2 d n) := by
  have e25 : idx_main_v25 (ix2 R n) = ix3 ⟨R.val / 4, by omega⟩ ⟨R.val % 4, by omega⟩ n := by
    funext a; refine Fin.ext ?_
    fin_cases a
    · show (R.val * 1840 + n.val) / 7360 = R.val / 4; omega
    · show (R.val * 1840 + n.val) / 1840 % 4 = R.val % 4; omega
    · show (R.val * 1840 + n.val) % 1840 = n.val; omega
  have hR : seqRow ⟨R.val / 4, by omega⟩ ⟨R.val % 4, by omega⟩ = R := Fin.ext (show R.val / 4 * 4 + R.val % 4 = R.val by omega)
  rw [val_main_v25_apply, e25, v22_at, hR]

/-- The reference's keys and values, one row of 768 columns to a position. -/
theorem v23_at (b : Fin 32) (s : Fin 4) (k : Fin 768) :
    val_main_v23 (F := Ideal) x0 x1 x2 x3 x4 (ix3 b s k) = ∑ d : Fin 1024, normModSample x0 x1 x2 x3 (seqRow b s) d * x4 (ix2 d ⟨1024 + k.val, by omega⟩) := by
  have e23 : idx_main_v23 (ix3 b s k) = ix3 b s ⟨1024 + k.val, by omega⟩ := by
    funext a; fin_cases a <;> rfl
  rw [val_main_v23_apply, e23, v22_at]

end Reference

open Cert.Kernel8Ideal Cert.Kernel8Ideal.Gen

theorem pay1_at (x : FVec Ideal S128x1024 .f32) (w : FVec Ideal S1x1024 .f32) (sc sh : FVec Ideal S1x128x1024 .f32) (r : Fin 128) (d : Fin 1024) :
    k0_pay1 (F := Ideal) x w sc sh (ix2 r d) = (modulate (fun e => x (ix2 r e)) (x (ix2 r d)) (w (ix2 0 d)) (sc (ix3 0 r d)) (sh (ix3 0 r d)) : EReal) := by
  pointwise [k0_pay1, modulate, invRms]

theorem pay2_at (h : FVec Ideal S128x1024 .f32) (w : FVec Ideal S1024x640 .f32) (r : Fin 128) (n : Fin 640) :
    k0_pay2 (F := Ideal) h w (ix2 r n) = (∑ d : Fin 1024, h (ix2 r d) * w (ix2 d n) : EReal) := by
  pointwise [k0_pay2]

variable (m : (ℓ : Loc nD τ sig) → Buf (Elt Ideal) ℓ)

/-- The reference's projection, over the kernel's arguments. -/
abbrev REF (c : Dev nD) : Buf (Elt Ideal) ((c : Thread nD τ).loc main_v13) :=
  Cert.Reference8Ideal.Read.val_main_v25 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The reference's keys and values of all the branches. -/
abbrev ALL (c : Dev nD) : Buf (Elt Ideal) ((c : Thread nD τ).loc main_v10) :=
  Cert.Reference8Ideal.Read.val_main_v24 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The reference's keys and values for the cache. -/
abbrev CACHE (c : Dev nD) : Buf (Elt Ideal) ((c : Thread nD τ).loc main_v14) :=
  Cert.Reference8Ideal.Read.val_main_v26 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The reference's window after the step. -/
abbrev WINDOW (c : Dev nD) : Buf (Elt Ideal) ((c : Thread nD τ).loc main_v15) :=
  Cert.Reference8Ideal.Read.val_main_v29 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The normalised and modulated row `R` at column `d`, over the kernel's arguments. -/
abbrev normed (c : Dev nD) (R : Fin 128) (d : Fin 1024) : EReal :=
  normModSample (m ((c : Thread nD τ).loc main_arg0)) (m ((c : Thread nD τ).loc main_arg1)) (m ((c : Thread nD τ).loc main_arg2)) (m ((c : Thread nD τ).loc main_arg3)) R d

/-- The product over all 1920 columns, those added at the right included. -/
def padded (c : Dev nD) : Buf (Elt Ideal) ((c : Thread nD τ).loc main_v8) :=
  fun i : S128x1920.Idx => (∑ d : Fin 1024, normed m c (i 0) d * (V m c main_v6 : S1024x1920.Idx → EReal) (ix2 d (i 1)) : EReal)

/-- Which block each window is on. -/
theorem idx : ∀ t : Fin cfg0.N, win0_0.index t = ![0, 0] ∧ win0_1.index t = ![0, 0] ∧ win0_2.index t = ![0, 0, 0] ∧ win0_3.index t = ![0, 0, 0]
    ∧ win0_4.index t = ![0, t.val] ∧ win0_5.index t = ![0, t.val] ∧ t.val < 3 :=
  (by decide +kernel : ∀ t : Fin grid0.N, win0_0.index t = ![0, 0] ∧ win0_1.index t = ![0, 0] ∧ win0_2.index t = ![0, 0, 0] ∧ win0_3.index t = ![0, 0, 0]
    ∧ win0_4.index t = ![0, t.val] ∧ win0_5.index t = ![0, t.val] ∧ t.val < 3)

/-- The norm's weights as the region reads them: the argument as one row. -/
theorem V_nw (c : Dev nD) (d : Fin 1024) : (V m c main_v7 : S1x1024.Idx → EReal) (ix2 0 d) = (m ((c : Thread nD τ).loc main_arg1) : S1024.Idx → EReal) (ix1 d) := by
  have e : V m c main_v7 = shapeCast S1x1024 (m ((c : Thread nD τ).loc main_arg1) : S1024.Idx → EReal) shapeCasts_S1024_S1x1024 := by
    simp only [V, V0, hostOps0, hostOps0_1, hostOps0_2, List.flatten_cons, List.flatten_nil, List.append_nil, List.cons_append, List.nil_append]
    after_results_simp <;> rfl
  rw [e]
  pointwise

/-- A modulation repeated over the four positions of each sequence, as one block of rows. -/
abbrev repeated (x : S32x1024.Idx → EReal) : S1x128x1024.Idx → EReal :=
  shapeCast S1x128x1024 (shapeCast S128x1024 (broadcastInDim S32x4x1024 ![0, 2] bcast_S32x1024_S32x4x1024_0_2 x : S32x4x1024.Idx → EReal) shapeCasts_S32x4x1024_S128x1024 : S128x1024.Idx → EReal)
    shapeCasts_S128x1024_S1x128x1024

theorem repeated_at (x : S32x1024.Idx → EReal) (r : Fin 128) (d : Fin 1024) : repeated x (ix3 0 r d) = x (ix2 ⟨r.val / 4, by omega⟩ d) := by
  refine (shapeCast_apply _ shapeCasts_S128x1024_S1x128x1024 (ix3 0 r d) (ix2 r d) ?_).trans ?_
  · rewrite [Shape.rowMajor_val_two, Shape.rowMajor_val_three]
    show r.val * 1024 + d.val = (0 * 128 + r.val) * 1024 + d.val
    omega
  refine (shapeCast_apply _ shapeCasts_S32x4x1024_S128x1024 (ix2 r d) (ix3 ⟨r.val / 4, by omega⟩ ⟨r.val % 4, by omega⟩ d) ?_).trans ?_
  · rewrite [Shape.rowMajor_val_two, Shape.rowMajor_val_three]
    show (r.val / 4 * 4 + r.val % 4) * 1024 + d.val = r.val * 1024 + d.val
    omega
  pointwise

theorem V_scale (c : Dev nD) : (V m c main_v2 : S1x128x1024.Idx → EReal) = repeated (m ((c : Thread nD τ).loc main_arg2)) := by
  simp only [V, V0, hostOps0, hostOps0_1, hostOps0_2, List.flatten_cons, List.flatten_nil, List.append_nil, List.cons_append, List.nil_append]
  after_results_simp <;> rfl

theorem V_shift (c : Dev nD) : (V m c main_v5 : S1x128x1024.Idx → EReal) = repeated (m ((c : Thread nD τ).loc main_arg3)) := by
  simp only [V, V0, hostOps0, hostOps0_1, hostOps0_2, List.flatten_cons, List.flatten_nil, List.append_nil, List.cons_append, List.nil_append]
  after_results_simp <;> rfl

/-- The weights the region reads are the argument on its own columns. -/
theorem V_weights (c : Dev nD) (d : Fin 1024) (n : Fin 1840) :
    (V m c main_v6 : S1024x1920.Idx → EReal) (ix2 d ⟨n.val, by omega⟩) = (m ((c : Thread nD τ).loc main_arg4) : S1024x1840.Idx → EReal) (ix2 d n) := by
  have e : V m c main_v6 = pad S1024x1920 ![0, 0] ![0, 80] ![0, 0] (m ((c : Thread nD τ).loc main_arg4)) (sitofp (F := Ideal) .f32 (constantI S_ 32 0#32)) pads_S1024x1840_S1024x1920_000_0800 h_S_ := by
    simp only [V, V0, hostOps0, hostOps0_1, hostOps0_2, List.flatten_cons, List.flatten_nil, List.append_nil, List.cons_append, List.nil_append]
    after_results_simp <;> rfl
  rw [e]
  pointwise
  refine dif_pos fun a => ?_
  fin_cases a
  · show 0 ≤ d.val ∧ (d.val - 0) % 1 = 0 ∧ (d.val - 0) / 1 < 1024
    omega
  · show 0 ≤ n.val ∧ (n.val - 0) % 1 = 0 ∧ (n.val - 0) / 1 < 1840
    omega

/-- The rows the first point normalises. -/
theorem pay1_block (c : Dev nD) (t : Fin cfg0.N) (r : Fin 128) (d : Fin 1024) :
    (k0_pay1 (F := Ideal) (iblk m c 0 t) (iblk m c 1 t) (iblk m c 2 t) (iblk m c 3 t) (ix2 r d) : EReal) = normed m c r d := by
  obtain ⟨e0, e1, e2, e3, e4, e5, ht⟩ := idx t
  have h1 : (iblk m c 1 t : S1x1024.Idx → EReal) (ix2 0 d) = (m ((c : Thread nD τ).loc main_arg1) : S1024.Idx → EReal) (ix1 d) := by
    refine Eq.trans ?_ (V_nw m c d)
    blk_ext [iblk, e1]
  have h0 : ∀ e : Fin 1024, (iblk m c 0 t : S128x1024.Idx → EReal) (ix2 r e) = (m ((c : Thread nD τ).loc main_arg0) : S128x1024.Idx → EReal) (ix2 r e) := fun e => by
    blk_ext [iblk, V, e0]
  have h2 : (iblk m c 2 t : S1x128x1024.Idx → EReal) (ix3 0 r d) = (m ((c : Thread nD τ).loc main_arg2) : S32x1024.Idx → EReal) (ix2 ⟨r.val / 4, by omega⟩ d) := by
    refine Eq.trans ?_ ((congrFun (V_scale m c) (ix3 0 r d)).trans (repeated_at _ r d))
    blk_ext [iblk, e2]
  have h3 : (iblk m c 3 t : S1x128x1024.Idx → EReal) (ix3 0 r d) = (m ((c : Thread nD τ).loc main_arg3) : S32x1024.Idx → EReal) (ix2 ⟨r.val / 4, by omega⟩ d) := by
    refine Eq.trans ?_ ((congrFun (V_shift m c) (ix3 0 r d)).trans (repeated_at _ r d))
    blk_ext [iblk, e3]
  rw [pay1_at, h1, h2, h3, h0 d, funext h0]
  rfl

/-- The carried rows: at every point, the normalised and modulated rows. -/
theorem carried (c : Dev nD) (n : ℕ) (hn : n < cfg0.N) (r : Fin 128) (d : Fin 1024) : ((outsAt0 m c n hn).2 (ix2 r d) : EReal) = normed m c r d := by
  induction n with
  | zero =>
    refine Eq.trans ?_ (pay1_block m c ⟨0, hn⟩ r d)
    show (outsAt0 m c (⟨0, hn⟩ : Fin cfg0.N).val (⟨0, hn⟩ : Fin cfg0.N).isLt).2 (ix2 r d) = _
    rw [outsAt0_A m c ⟨0, hn⟩ rfl]
    frame_out
  | succ n ih =>
    have h0 : ¬(n + 1) % 3 = 0 := by have := (idx ⟨n + 1, hn⟩).2.2.2.2.2.2; dsimp only at this; omega
    rw [← ih (by omega)]
    show (outsAt0 m c (⟨n + 1, hn⟩ : Fin cfg0.N).val (⟨n + 1, hn⟩ : Fin cfg0.N).isLt).2 (ix2 r d) = _
    rw [outsAt0_B m c ⟨n + 1, hn⟩ h0]
    rfl

/-- A tile's product over the normalised rows. -/
theorem pay2_block (c : Dev nD) (t : Fin cfg0.N) (h : FVec Ideal S128x1024 .f32) (hh : ∀ (r : Fin 128) (d : Fin 1024), (h (ix2 r d) : EReal) = normed m c r d) (r : Fin 128) (n : Fin 640) :
    (k0_pay2 (F := Ideal) h (iblk m c 4 t) (ix2 r n) : EReal)
      = (padded m c : S128x1920.Idx → EReal) (ix2 r ⟨t.val * 640 + n.val, by have := (idx t).2.2.2.2.2.2; omega⟩) := by
  obtain ⟨e0, e1, e2, e3, e4, e5, ht⟩ := idx t
  rw [pay2_at]
  refine Finset.sum_congr rfl fun d _ => congrArg₂ (fun u v : EReal => u * v) (hh r d) ?_
  blk_ext [iblk, e4]

/-- What point `t` stores. -/
theorem point (c : Dev nD) (t : Fin cfg0.N) (r : Fin 128) (n : Fin 640) :
    ((outsAt0 m c t.val t.isLt).1 (ix2 r n) : EReal) = (padded m c : S128x1920.Idx → EReal) (ix2 r ⟨t.val * 640 + n.val, by have := (idx t).2.2.2.2.2.2; omega⟩) := by
  by_cases h0 : t.val % 3 = 0
  · rw [outsAt0_A m c t h0]
    frame_out
    exact pay2_block m c t _ (pay1_block m c t) r n
  · have hh := carried m c (t.val - 1) (by omega)
    rw [outsAt0_B m c t h0]
    generalize outsAt0 m c (t.val - 1) (by omega) = p at hh ⊢
    frame_out
    rw [read_unread_whole]
    exact pay2_block m c t _ hh r n

/-- The region's array after the run. -/
theorem final (c : Dev nD) : (dats m 0 c).arrAt 5 cfg0.N = padded m c := by
  refine (dats m 0 c).arrAt_eq_of_covers 5 _ (by decide +kernel) fun t _ y => ?_
  blk_simp
  rw [after0_5]
  obtain ⟨e0, e1, e2, e3, e4, e5, ht⟩ := idx t
  have hp := point m c t (y (0 : Fin 2)) (y (1 : Fin 2))
  refine Eq.trans ?_ (hp.trans ?_)
  · refine congrArg (outsAt0 m c t.val t.isLt).1 (funext fun x => ?_)
    fin_cases x <;> rfl
  · refine congrArg (padded m c) ?_
    blk_ext [e5]

/-- The columns the caller keeps are the reference's. -/
theorem sliced (c : Dev nD) : (extractStridedSlice S128x1840 ![0, 0] (padded m c) slices_S128x1920_S128x1840_0_0 : S128x1840.Idx → EReal) = REF m c := by
  funext i
  obtain ⟨R, n, rfl⟩ : ∃ R n, i = ix2 R n := ⟨i 0, i 1, by funext x; fin_cases x <;> rfl⟩
  rw [REF, reference_at]
  have e : (extractStridedSlice S128x1840 ![0, 0] (padded m c) slices_S128x1920_S128x1840_0_0 : S128x1840.Idx → EReal) (ix2 R n) = (padded m c : S128x1920.Idx → EReal) (ix2 R ⟨n.val, by omega⟩) := by
    pointwise
  rw [e]
  exact Finset.sum_congr rfl fun d _ => congrArg (fun u : EReal => _ * u) (V_weights m c d n)

/-- The keys and values of all the branches, from the padded product. -/
abbrev branches (A : S128x1920.Idx → EReal) : S32x4x6x2x64.Idx → EReal :=
  shapeCast S32x4x6x2x64 (extractStridedSlice S128x768 ![0, 1024] A slices_S128x1920_S128x768_0_1024 : S128x768.Idx → EReal) shapeCasts_S128x768_S32x4x6x2x64

/-- The 768 columns of keys and values, split by branch, group and coordinate, are the reference's. -/
theorem split (c : Dev nD) : branches (padded m c) = ALL m c := by
  funext i
  have h0 : (i 0).val < 32 := (i 0).isLt
  have h1 : (i 1).val < 4 := (i 1).isLt
  have h2 : (i 2).val < 6 := (i 2).isLt
  have h3 : (i 3).val < 2 := (i 3).isLt
  have h4 : (i 4).val < 64 := (i 4).isLt
  have ek : ((i 2).val * 2 + (i 3).val) * 64 + (i 4).val < 768 := by omega
  have e24 : Cert.Reference8Ideal.Read.idx_main_v24 i = ix3 ⟨(i 0).val, h0⟩ ⟨(i 1).val, h1⟩ ⟨((i 2).val * 2 + (i 3).val) * 64 + (i 4).val, ek⟩ := by
    funext a; refine Fin.ext ?_
    fin_cases a
    · show (((((i 0).val * 4 + (i 1).val) * 6 + (i 2).val) * 2 + (i 3).val) * 64 + (i 4).val) / 3072 = (i 0).val; omega
    · show (((((i 0).val * 4 + (i 1).val) * 6 + (i 2).val) * 2 + (i 3).val) * 64 + (i 4).val) / 768 % 4 = (i 1).val; omega
    · show (((((i 0).val * 4 + (i 1).val) * 6 + (i 2).val) * 2 + (i 3).val) * 64 + (i 4).val) % 768 = ((i 2).val * 2 + (i 3).val) * 64 + (i 4).val; omega
  refine Eq.trans (shapeCast_apply _ shapeCasts_S128x768_S32x4x6x2x64 i
    (ix2 (seqRow ⟨(i 0).val, h0⟩ ⟨(i 1).val, h1⟩) ⟨((i 2).val * 2 + (i 3).val) * 64 + (i 4).val, ek⟩) ?_) ?_
  · rewrite [Shape.rowMajor_val_two, Shape.rowMajor_val_five]
    show ((i 0).val * 4 + (i 1).val) * 768 + (((i 2).val * 2 + (i 3).val) * 64 + (i 4).val) = ((((i 0).val * 4 + (i 1).val) * 6 + (i 2).val) * 2 + (i 3).val) * 64 + (i 4).val
    omega
  · refine Eq.trans ?_ ((Cert.Reference8Ideal.Read.val_main_v24_apply _ _ _ _ _ i).trans ((congrArg _ e24).trans (v23_at _ _ _ _ _ _ _ _))).symm
    have e : ∀ (R : Fin 128) (k : Fin 768), (extractStridedSlice S128x768 ![0, 1024] (padded m c) slices_S128x1920_S128x768_0_1024 : S128x768.Idx → EReal) (ix2 R k)
        = (padded m c : S128x1920.Idx → EReal) (ix2 R ⟨1024 + k.val, by omega⟩) := fun R k => by
      pointwise
    rw [e]
    exact Finset.sum_congr rfl fun d _ => congrArg (fun u : EReal => _ * u) (V_weights m c d ⟨1024 + (((i 2).val * 2 + (i 3).val) * 64 + (i 4).val), by omega⟩)

/-- The branches that are cached are the reference's. -/
theorem cached (c : Dev nD) : (extractStridedSlice S32x4x4x2x64 ![0, 0, 0, 0, 0] (branches (padded m c)) slices_S32x4x6x2x64_S32x4x4x2x64_0_0_0_0_0 : S32x4x4x2x64.Idx → EReal) = CACHE m c := by
  rw [split, CACHE, Cert.Reference8Ideal.Read.val_main_v26]

/-- The window moved on: the last 512 positions of the old window with the four new ones put after it. -/
abbrev moved (w : S32x512x2x2x64.Idx → EReal) (x : S32x4x2x2x64.Idx → EReal) : S32x512x2x2x64.Idx → EReal :=
  extractStridedSlice S32x512x2x2x64 ![0, 4, 0, 0, 0]
    (concatenate S32x516x2x2x64 1 [⟨S32x512x2x2x64, w⟩, ⟨S32x4x2x2x64, x⟩] concatenates_S32x512x2x2x64_S32x4x2x2x64_S32x516x2x2x64_d1 : S32x516x2x2x64.Idx → EReal)
    slices_S32x516x2x2x64_S32x512x2x2x64_0_4_0_0_0

/-- The two branches of the window, at the new positions. -/
abbrev recent (B : S32x4x6x2x64.Idx → EReal) : S32x4x2x2x64.Idx → EReal :=
  extractStridedSlice S32x4x2x2x64 ![0, 0, 4, 0, 0] B slices_S32x4x6x2x64_S32x4x2x2x64_0_0_4_0_0

/-- The window after the step is the reference's. -/
theorem windowed (c : Dev nD) : moved (m ((c : Thread nD τ).loc main_arg5)) (recent (branches (padded m c))) = WINDOW m c := by
  rw [split, WINDOW, Cert.Reference8Ideal.Read.val_main_v29, Cert.Reference8Ideal.Read.val_main_v28, Cert.Reference8Ideal.Read.val_main_v27]

/-- The region's array as the operations after it read it. -/
theorem region (c : Dev nD) : Pipeline.withArrays (cfgs 0).spec c (V0 m c) (fun w => (dats m 0 c).arrAt w (cfgs 0).N) main_v8 = padded m c :=
  (Pipeline.withArrays_arr _ winFacts0.arr_inj c (V0 m c) (fun w => (dats m 0 c).arrAt w (cfgs 0).N) 5).trans (final m c)

/-- The old window as the operations after the region read it. -/
theorem region_window (c : Dev nD) : Pipeline.withArrays (cfgs 0).spec c (V0 m c) (fun w => (dats m 0 c).arrAt w (cfgs 0).N) main_arg5 = m ((c : Thread nD τ).loc main_arg5) :=
  (Pipeline.withArrays_of_ne _ c (V0 m c) _ main_arg5 (by decide)).trans (V_main_arg5 m c)

/-- What the projection ends at, after the slice that follows the region. -/
theorem result (c : Dev nD) : Pipeline.afterTail₀ cfgs (dats m) 0 (V0 m) [hostOps1] c main_v13 = REF m c := by
  refine Eq.trans ?_ (sliced m c)
  unfold Pipeline.afterTail₀
  simp only [hostOps1, List.flatten_cons, List.flatten_nil, List.append_nil, List.cons_append, List.nil_append]
  after_results_simp
  rw [region]

/-- What the keys and values for the cache end at. -/
theorem result_cache (c : Dev nD) : Pipeline.afterTail₀ cfgs (dats m) 0 (V0 m) [hostOps1] c main_v14 = CACHE m c := by
  refine Eq.trans ?_ (cached m c)
  unfold Pipeline.afterTail₀
  simp only [hostOps1, List.flatten_cons, List.flatten_nil, List.append_nil, List.cons_append, List.nil_append]
  after_results_simp
  rw [region]
  generalize padded m c = A
  rfl

/-- What the window ends at. -/
theorem result_window (c : Dev nD) : Pipeline.afterTail₀ cfgs (dats m) 0 (V0 m) [hostOps1] c main_v15 = WINDOW m c := by
  refine Eq.trans ?_ (windowed m c)
  unfold Pipeline.afterTail₀
  simp only [hostOps1, List.flatten_cons, List.flatten_nil, List.append_nil, List.cons_append, List.nil_append]
  after_results_simp
  refine congrArg₂ moved ?_ ?_
  · after_results_simp
    exact region_window m c
  · after_results_simp
    rw [region]
    generalize padded m c = A
    rfl

end Cert.Kernel8Ideal.SampleNsa

end
-- ==== Proof.SampleGdn.lean ====
/- The sample's projection in the gated DeltaNet layer: as SampleNsa.lean, with 4112 columns padded to 4224 in three tiles. Of the product
   the caller keeps the 4112 columns and the buffer of the next convolution, which is the last three positions of the old buffer with the new
   rows put after it. The normalised rows are SampleNsa.lean's. -/
module

public import proofs.«01_k».proof.Proof.Gen.Kernel9Ideal.Frame
public import proofs.«01_k».proof.Proof.Gen.Reference9Ideal.Read
public import proofs.«01_k».proof.Proof.SampleNsa

@[expose] public section

set_option maxRecDepth 16384

noncomputable section

namespace Cert.Kernel9Ideal.SampleGdn

open Idealize.ShloMosaic
open Idealize.ShloMosaic.TcCoe Idealize.ShloMosaic.Tactic
open Cert.Trunk
open Cert.Kernel8Ideal.SampleNsa (seqRow repeated repeated_at)

section Reference
open Cert.Reference9Ideal Cert.Reference9Ideal.Read

variable (x0 : FVec Ideal S128x1024 .f32) (x1 : FVec Ideal S1024 .f32) (x2 x3 : FVec Ideal S32x1024 .f32) (x4 : FVec Ideal S1024x4112 .f32)

/-- The reference's product at position `s` of sequence `b`, column `n`: the normalised row is the other projection's. -/
theorem v22_at (b : Fin 32) (s : Fin 4) (n : Fin 4112) :
    val_main_v22 (F := Ideal) x0 x1 x2 x3 x4 (ix3 b s n) = ∑ d : Fin 1024, normModSample x0 x1 x2 x3 (seqRow b s) d * x4 (ix2 d n) := by
  rw [val_main_v22_apply]
  refine Finset.sum_congr rfl fun d _ => congrArg₂ (fun u v : EReal => u * v) ?_ (congrArg x4 ?_)
  · refine Eq.trans (congrArg (val_main_v21 (F := Ideal) x0 x1 x2 x3) (funext fun a => Fin.ext ?_)) (Kernel8Ideal.SampleNsa.v21_at x0 x1 x2 x3 b s d)
    fin_cases a <;> rfl
  · funext a; fin_cases a <;> rfl

/-- The reference at row `R`, column `n`. -/
theorem reference_at (R : Fin 128) (n : Fin 4112) :
    val_main_v23 (F := Ideal) x0 x1 x2 x3 x4 (ix2 R n) = ∑ d : Fin 1024, normModSample x0 x1 x2 x3 R d * x4 (ix2 d n) := by
  have e23 : idx_main_v23 (ix2 R n) = ix3 ⟨R.val / 4, by omega⟩ ⟨R.val % 4, by omega⟩ n := by
    funext a; refine Fin.ext ?_
    fin_cases a
    · show (R.val * 4112 + n.val) / 16448 = R.val / 4; omega
    · show (R.val * 4112 + n.val) / 4112 % 4 = R.val % 4; omega
    · show (R.val * 4112 + n.val) % 4112 = n.val; omega
  have hR : seqRow ⟨R.val / 4, by omega⟩ ⟨R.val % 4, by omega⟩ = R := Fin.ext (show R.val / 4 * 4 + R.val % 4 = R.val by omega)
  rw [val_main_v23_apply, e23, v22_at, hR]

/-- The reference's columns that go into the convolution. -/
theorem v24_at (b : Fin 32) (s : Fin 4) (k : Fin 3072) :
    val_main_v24 (F := Ideal) x0 x1 x2 x3 x4 (ix3 b s k) = ∑ d : Fin 1024, normModSample x0 x1 x2 x3 (seqRow b s) d * x4 (ix2 d ⟨k.val, by omega⟩) := by
  have e24 : idx_main_v24 (ix3 b s k) = ix3 b s ⟨k.val, by omega⟩ := by
    funext a; fin_cases a <;> rfl
  rw [val_main_v24_apply, e24, v22_at]

end Reference

open Cert.Kernel9Ideal Cert.Kernel9Ideal.Gen

theorem pay2_at (h : FVec Ideal S128x1024 .f32) (w : FVec Ideal S1024x1408 .f32) (r : Fin 128) (n : Fin 1408) :
    k0_pay2 (F := Ideal) h w (ix2 r n) = (∑ d : Fin 1024, h (ix2 r d) * w (ix2 d n) : EReal) := by
  pointwise [k0_pay2]

variable (m : (ℓ : Loc nD τ sig) → Buf (Elt Ideal) ℓ)

/-- The reference's projection, over the kernel's arguments. -/
abbrev REF (c : Dev nD) : Buf (Elt Ideal) ((c : Thread nD τ).loc main_v12) :=
  Cert.Reference9Ideal.Read.val_main_v23 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The reference's columns for the convolution. -/
abbrev MIXED (c : Dev nD) : Buf (Elt Ideal) ((c : Thread nD τ).loc main_v10) :=
  Cert.Reference9Ideal.Read.val_main_v24 (F := Ideal) (m ((c : Thread nD τ).loc main_arg0)) (m ((c : Thread nD τ).loc main_arg1)) (m ((c : Thread nD τ).loc main_arg2)) (m ((c : Thread nD τ).loc main_arg3))
    (m ((c : Thread nD τ).loc main_arg4))

/-- The reference's buffer after the step. -/
abbrev TAIL (c : Dev nD) : Buf (Elt Ideal) ((c : Thread nD τ).loc main_v13) :=
  Cert.Reference9Ideal.Read.val_main_v26 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The normalised and modulated row `R` at column `d`, over the kernel's arguments. -/
abbrev normed (c : Dev nD) (R : Fin 128) (d : Fin 1024) : EReal :=
  normModSample (m ((c : Thread nD τ).loc main_arg0)) (m ((c : Thread nD τ).loc main_arg1)) (m ((c : Thread nD τ).loc main_arg2)) (m ((c : Thread nD τ).loc main_arg3)) R d

/-- The product over all 4224 columns, those added at the right included. -/
def padded (c : Dev nD) : Buf (Elt Ideal) ((c : Thread nD τ).loc main_v8) :=
  fun i : S128x4224.Idx => (∑ d : Fin 1024, normed m c (i 0) d * (V m c main_v6 : S1024x4224.Idx → EReal) (ix2 d (i 1)) : EReal)

/-- Which block each window is on. -/
theorem idx : ∀ t : Fin cfg0.N, win0_0.index t = ![0, 0] ∧ win0_1.index t = ![0, 0] ∧ win0_2.index t = ![0, 0, 0] ∧ win0_3.index t = ![0, 0, 0]
    ∧ win0_4.index t = ![0, t.val] ∧ win0_5.index t = ![0, t.val] ∧ t.val < 3 :=
  (by decide +kernel : ∀ t : Fin grid0.N, win0_0.index t = ![0, 0] ∧ win0_1.index t = ![0, 0] ∧ win0_2.index t = ![0, 0, 0] ∧ win0_3.index t = ![0, 0, 0]
    ∧ win0_4.index t = ![0, t.val] ∧ win0_5.index t = ![0, t.val] ∧ t.val < 3)

/-- The norm's weights as the region reads them: the argument as one row. -/
theorem V_nw (c : Dev nD) (d : Fin 1024) : (V m c main_v7 : S1x1024.Idx → EReal) (ix2 0 d) = (m ((c : Thread nD τ).loc main_arg1) : S1024.Idx → EReal) (ix1 d) := by
  have e : V m c main_v7 = shapeCast S1x1024 (m ((c : Thread nD τ).loc main_arg1) : S1024.Idx → EReal) shapeCasts_S1024_S1x1024 := by
    simp only [V, V0, hostOps0, hostOps0_1, hostOps0_2, List.flatten_cons, List.flatten_nil, List.append_nil, List.cons_append, List.nil_append]
    after_results_simp <;> rfl
  rw [e]
  pointwise

theorem V_scale (c : Dev nD) : (V m c main_v2 : S1x128x1024.Idx → EReal) = repeated (m ((c : Thread nD τ).loc main_arg2)) := by
  simp only [V, V0, hostOps0, hostOps0_1, hostOps0_2, List.flatten_cons, List.flatten_nil, List.append_nil, List.cons_append, List.nil_append]
  after_results_simp <;> rfl

theorem V_shift (c : Dev nD) : (V m c main_v5 : S1x128x1024.Idx → EReal) = repeated (m ((c : Thread nD τ).loc main_arg3)) := by
  simp only [V, V0, hostOps0, hostOps0_1, hostOps0_2, List.flatten_cons, List.flatten_nil, List.append_nil, List.cons_append, List.nil_append]
  after_results_simp <;> rfl

/-- The weights the region reads are the argument on its own columns. -/
theorem V_weights (c : Dev nD) (d : Fin 1024) (n : Fin 4112) :
    (V m c main_v6 : S1024x4224.Idx → EReal) (ix2 d ⟨n.val, by omega⟩) = (m ((c : Thread nD τ).loc main_arg4) : S1024x4112.Idx → EReal) (ix2 d n) := by
  have e : V m c main_v6 = pad S1024x4224 ![0, 0] ![0, 112] ![0, 0] (m ((c : Thread nD τ).loc main_arg4)) (sitofp (F := Ideal) .f32 (constantI S_ 32 0#32)) pads_S1024x4112_S1024x4224_000_01120 h_S_ := by
    simp only [V, V0, hostOps0, hostOps0_1, hostOps0_2, List.flatten_cons, List.flatten_nil, List.append_nil, List.cons_append, List.nil_append]
    after_results_simp <;> rfl
  rw [e]
  pointwise
  refine dif_pos fun a => ?_
  fin_cases a
  · show 0 ≤ d.val ∧ (d.val - 0) % 1 = 0 ∧ (d.val - 0) / 1 < 1024
    omega
  · show 0 ≤ n.val ∧ (n.val - 0) % 1 = 0 ∧ (n.val - 0) / 1 < 4112
    omega

/-- The rows the first point normalises. -/
theorem pay1_block (c : Dev nD) (t : Fin cfg0.N) (r : Fin 128) (d : Fin 1024) :
    (k0_pay1 (F := Ideal) (iblk m c 0 t) (iblk m c 1 t) (iblk m c 2 t) (iblk m c 3 t) (ix2 r d) : EReal) = normed m c r d := by
  obtain ⟨e0, e1, e2, e3, e4, e5, ht⟩ := idx t
  have h1 : (iblk m c 1 t : S1x1024.Idx → EReal) (ix2 0 d) = (m ((c : Thread nD τ).loc main_arg1) : S1024.Idx → EReal) (ix1 d) := by
    refine Eq.trans ?_ (V_nw m c d)
    blk_ext [iblk, e1]
  have h0 : ∀ e : Fin 1024, (iblk m c 0 t : S128x1024.Idx → EReal) (ix2 r e) = (m ((c : Thread nD τ).loc main_arg0) : S128x1024.Idx → EReal) (ix2 r e) := fun e => by
    blk_ext [iblk, V, e0]
  have h2 : (iblk m c 2 t : S1x128x1024.Idx → EReal) (ix3 0 r d) = (m ((c : Thread nD τ).loc main_arg2) : S32x1024.Idx → EReal) (ix2 ⟨r.val / 4, by omega⟩ d) := by
    refine Eq.trans ?_ ((congrFun (V_scale m c) (ix3 0 r d)).trans (repeated_at _ r d))
    blk_ext [iblk, e2]
  have h3 : (iblk m c 3 t : S1x128x1024.Idx → EReal) (ix3 0 r d) = (m ((c : Thread nD τ).loc main_arg3) : S32x1024.Idx → EReal) (ix2 ⟨r.val / 4, by omega⟩ d) := by
    refine Eq.trans ?_ ((congrFun (V_shift m c) (ix3 0 r d)).trans (repeated_at _ r d))
    blk_ext [iblk, e3]
  refine (Kernel8Ideal.SampleNsa.pay1_at _ _ _ _ r d).trans ?_
  rw [h1, h2, h3, h0 d, funext h0]
  rfl

/-- The carried rows: at every point, the normalised and modulated rows. -/
theorem carried (c : Dev nD) (n : ℕ) (hn : n < cfg0.N) (r : Fin 128) (d : Fin 1024) : ((outsAt0 m c n hn).2 (ix2 r d) : EReal) = normed m c r d := by
  induction n with
  | zero =>
    refine Eq.trans ?_ (pay1_block m c ⟨0, hn⟩ r d)
    show (outsAt0 m c (⟨0, hn⟩ : Fin cfg0.N).val (⟨0, hn⟩ : Fin cfg0.N).isLt).2 (ix2 r d) = _
    rw [outsAt0_A m c ⟨0, hn⟩ rfl]
    frame_out
  | succ n ih =>
    have h0 : ¬(n + 1) % 3 = 0 := by have := (idx ⟨n + 1, hn⟩).2.2.2.2.2.2; dsimp only at this; omega
    rw [← ih (by omega)]
    show (outsAt0 m c (⟨n + 1, hn⟩ : Fin cfg0.N).val (⟨n + 1, hn⟩ : Fin cfg0.N).isLt).2 (ix2 r d) = _
    rw [outsAt0_B m c ⟨n + 1, hn⟩ h0]
    rfl

/-- A tile's product over the normalised rows. -/
theorem pay2_block (c : Dev nD) (t : Fin cfg0.N) (h : FVec Ideal S128x1024 .f32) (hh : ∀ (r : Fin 128) (d : Fin 1024), (h (ix2 r d) : EReal) = normed m c r d) (r : Fin 128) (n : Fin 1408) :
    (k0_pay2 (F := Ideal) h (iblk m c 4 t) (ix2 r n) : EReal)
      = (padded m c : S128x4224.Idx → EReal) (ix2 r ⟨t.val * 1408 + n.val, by have := (idx t).2.2.2.2.2.2; omega⟩) := by
  obtain ⟨e0, e1, e2, e3, e4, e5, ht⟩ := idx t
  rw [pay2_at]
  refine Finset.sum_congr rfl fun d _ => congrArg₂ (fun u v : EReal => u * v) (hh r d) ?_
  blk_ext [iblk, e4]

/-- What point `t` stores. -/
theorem point (c : Dev nD) (t : Fin cfg0.N) (r : Fin 128) (n : Fin 1408) :
    ((outsAt0 m c t.val t.isLt).1 (ix2 r n) : EReal) = (padded m c : S128x4224.Idx → EReal) (ix2 r ⟨t.val * 1408 + n.val, by have := (idx t).2.2.2.2.2.2; omega⟩) := by
  by_cases h0 : t.val % 3 = 0
  · rw [outsAt0_A m c t h0]
    frame_out
    exact pay2_block m c t _ (pay1_block m c t) r n
  · have hh := carried m c (t.val - 1) (by omega)
    rw [outsAt0_B m c t h0]
    generalize outsAt0 m c (t.val - 1) (by omega) = p at hh ⊢
    frame_out
    rw [read_unread_whole]
    exact pay2_block m c t _ hh r n

/-- The region's array after the run. -/
theorem final (c : Dev nD) : (dats m 0 c).arrAt 5 cfg0.N = padded m c := by
  refine (dats m 0 c).arrAt_eq_of_covers 5 _ (by decide +kernel) fun t _ y => ?_
  blk_simp
  rw [after0_5]
  obtain ⟨e0, e1, e2, e3, e4, e5, ht⟩ := idx t
  have hp := point m c t (y (0 : Fin 2)) (y (1 : Fin 2))
  refine Eq.trans ?_ (hp.trans ?_)
  · refine congrArg (outsAt0 m c t.val t.isLt).1 (funext fun x => ?_)
    fin_cases x <;> rfl
  · refine congrArg (padded m c) ?_
    blk_ext [e5]

/-- The columns the caller keeps are the reference's. -/
theorem sliced (c : Dev nD) : (extractStridedSlice S128x4112 ![0, 0] (padded m c) slices_S128x4224_S128x4112_0_0 : S128x4112.Idx → EReal) = REF m c := by
  funext i
  obtain ⟨R, n, rfl⟩ : ∃ R n, i = ix2 R n := ⟨i 0, i 1, by funext x; fin_cases x <;> rfl⟩
  rw [REF, reference_at]
  have e : (extractStridedSlice S128x4112 ![0, 0] (padded m c) slices_S128x4224_S128x4112_0_0 : S128x4112.Idx → EReal) (ix2 R n) = (padded m c : S128x4224.Idx → EReal) (ix2 R ⟨n.val, by omega⟩) := by
    pointwise
  rw [e]
  exact Finset.sum_congr rfl fun d _ => congrArg (fun u : EReal => _ * u) (V_weights m c d n)

/-- The columns for the convolution, from the padded product. -/
abbrev firstColumns (A : S128x4224.Idx → EReal) : S32x4x3072.Idx → EReal :=
  extractStridedSlice S32x4x3072 ![0, 0, 0] (shapeCast S32x4x4224 A shapeCasts_S128x4224_S32x4x4224 : S32x4x4224.Idx → EReal) slices_S32x4x4224_S32x4x3072_0_0_0

/-- The slice keeps the first columns. -/
theorem kept_at (B : S32x4x4224.Idx → EReal) (b : Fin 32) (s : Fin 4) (k : Fin 3072) :
    (extractStridedSlice S32x4x3072 ![0, 0, 0] B slices_S32x4x4224_S32x4x3072_0_0_0 : S32x4x3072.Idx → EReal) (ix3 b s k) = B (ix3 b s ⟨k.val, by omega⟩) := by
  pointwise

theorem firstColumns_at (A : S128x4224.Idx → EReal) (b : Fin 32) (s : Fin 4) (k : Fin 3072) : firstColumns A (ix3 b s k) = A (ix2 (seqRow b s) ⟨k.val, by omega⟩) := by
  rw [firstColumns, kept_at]
  refine shapeCast_apply A shapeCasts_S128x4224_S32x4x4224 (ix3 b s ⟨k.val, by omega⟩) (ix2 (seqRow b s) ⟨k.val, by omega⟩) ?_
  rewrite [Shape.rowMajor_val_two, Shape.rowMajor_val_three]
  rfl

/-- They are the reference's. -/
theorem firstColumns_eq (c : Dev nD) : firstColumns (padded m c) = MIXED m c := by
  funext i
  obtain ⟨b, s, k, rfl⟩ : ∃ b s k, i = ix3 b s k := ⟨i 0, i 1, i 2, by funext x; fin_cases x <;> rfl⟩
  rw [MIXED, v24_at, firstColumns_at]
  exact Finset.sum_congr rfl fun d _ => congrArg (fun u : EReal => _ * u) (V_weights m c d ⟨k.val, by omega⟩)

/-- The buffer moved on: the last three positions of the old buffer with the four new ones put after it. -/
abbrev moved (w : S32x3x3072.Idx → EReal) (x : S32x4x3072.Idx → EReal) : S32x3x3072.Idx → EReal :=
  extractStridedSlice S32x3x3072 ![0, 4, 0]
    (concatenate S32x7x3072 1 [⟨S32x3x3072, w⟩, ⟨S32x4x3072, x⟩] concatenates_S32x3x3072_S32x4x3072_S32x7x3072_d1 : S32x7x3072.Idx → EReal) slices_S32x7x3072_S32x3x3072_0_4_0

/-- The buffer after the step is the reference's. -/
theorem buffered (c : Dev nD) : moved (m ((c : Thread nD τ).loc main_arg5)) (firstColumns (padded m c)) = TAIL m c := by
  rw [firstColumns_eq, TAIL, Cert.Reference9Ideal.Read.val_main_v26, Cert.Reference9Ideal.Read.val_main_v25]

/-- The region's array as the operations after it read it. -/
theorem region (c : Dev nD) : Pipeline.withArrays (cfgs 0).spec c (V0 m c) (fun w => (dats m 0 c).arrAt w (cfgs 0).N) main_v8 = padded m c :=
  (Pipeline.withArrays_arr _ winFacts0.arr_inj c (V0 m c) (fun w => (dats m 0 c).arrAt w (cfgs 0).N) 5).trans (final m c)

/-- The old buffer as the operations after the region read it. -/
theorem region_buffer (c : Dev nD) : Pipeline.withArrays (cfgs 0).spec c (V0 m c) (fun w => (dats m 0 c).arrAt w (cfgs 0).N) main_arg5 = m ((c : Thread nD τ).loc main_arg5) :=
  (Pipeline.withArrays_of_ne _ c (V0 m c) _ main_arg5 (by decide)).trans (V_main_arg5 m c)

/-- What the projection ends at, after the slice that follows the region. -/
theorem result (c : Dev nD) : Pipeline.afterTail₀ cfgs (dats m) 0 (V0 m) [hostOps1] c main_v12 = REF m c := by
  refine Eq.trans ?_ (sliced m c)
  unfold Pipeline.afterTail₀
  simp only [hostOps1, List.flatten_cons, List.flatten_nil, List.append_nil, List.cons_append, List.nil_append]
  after_results_simp
  rw [region]

/-- What the convolution's buffer ends at. -/
theorem result_tail (c : Dev nD) : Pipeline.afterTail₀ cfgs (dats m) 0 (V0 m) [hostOps1] c main_v13 = TAIL m c := by
  refine Eq.trans ?_ (buffered m c)
  unfold Pipeline.afterTail₀
  simp only [hostOps1, List.flatten_cons, List.flatten_nil, List.append_nil, List.cons_append, List.nil_append]
  after_results_simp
  refine congrArg₂ moved ?_ ?_
  · after_results_simp
    exact region_buffer m c
  · after_results_simp
    rw [region]
    generalize padded m c = A
    rfl

end Cert.Kernel9Ideal.SampleGdn

end
-- ==== Proof.lean ====
module

public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_routed
public import proofs.«01_k».proof.Proof.Gen.On_used_rows
public import proofs.«01_k».proof.Proof.MoeFrame
public import proofs.«01_k».proof.Proof.MoeValue
public import proofs.«01_k».proof.Proof.MoeSame
public import proofs.«01_k».proof.Proof.FfnValue
public import proofs.«01_k».proof.Proof.Projection
public import proofs.«01_k».proof.Proof.Residual
public import proofs.«01_k».proof.Proof.ProjectionNsa
public import proofs.«01_k».proof.Proof.ProjectionS5
public import proofs.«01_k».proof.Proof.Compress
public import proofs.«01_k».proof.Proof.SampleNsa
public import proofs.«01_k».proof.Proof.SampleGdn
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The launch memories the claims are about have their tables in range. -/
theorem routed_of_pre (m) (h : Cert.Pre_Kernel m) : Cert.Kernel.Moe.Routed m := fun c => Cert.Kernel.Moe.of_routed (h c)
theorem routed_of_preI (m) (h : Cert.Pre_KernelIdeal m) : Cert.Kernel.Moe.Routed (F := Ideal) m := fun c => Cert.Kernel.Moe.of_routed (h c)

/-- The reference leaves its arguments, and has no counter to leave anywhere but at zero. -/
theorem reference_frame : Cert.quiescent_ReferenceIdeal := fun m g _ =>
  (θ_run (Cert.ReferenceIdeal.defs (F := Idealize.ShloMosaic.Ideal)) _ _).mono (fun r h => ⟨fun c => (h c).2, sem_eq_zero_of_no_sems rfl r.2⟩) (Cert.ReferenceIdeal.Value.run m g)

/-- On the rows of the used blocks the kernel and the reference end at one value. -/
theorem value : Cert.algebraic_KernelIdeal_ReferenceIdeal_on_used_rows := fun m g m' g' h hm =>
  ⟨Cert.Kernel.Moe.REF m, Cert.KernelIdeal.Moe.run_same _ _ (Cert.Kernel.Moe.run_value (routed_of_preI m h) g),
    (θ_run (Cert.ReferenceIdeal.defs (F := Idealize.ShloMosaic.Ideal)) _ _).mono (fun r hr c => ⟨fun i _ => by
      have h0 := (hr c).1
      obtain ⟨e0, e1, _, e3, e4⟩ := hm c
      rw [e0, e1, e3, e4] at h0
      exact congrFun h0 i, (hr c).2⟩) (Cert.ReferenceIdeal.Value.run m' g')⟩

/-- The other references likewise. -/
theorem reference2_frame : Cert.quiescent_Reference2Ideal := fun m g _ =>
  (θ_run (Cert.Reference2Ideal.defs (F := Idealize.ShloMosaic.Ideal)) _ _).mono (fun r h => ⟨fun c => (h c).2, sem_eq_zero_of_no_sems rfl r.2⟩) (Cert.Reference2Ideal.Value.run m g)
theorem reference3_frame : Cert.quiescent_Reference3Ideal := fun m g _ =>
  (θ_run (Cert.Reference3Ideal.defs (F := Idealize.ShloMosaic.Ideal)) _ _).mono (fun r h => ⟨fun c => (h c).2.2, sem_eq_zero_of_no_sems rfl r.2⟩) (Cert.Reference3Ideal.Value.run m g)
theorem reference4_frame : Cert.quiescent_Reference4Ideal := fun m g _ =>
  (θ_run (Cert.Reference4Ideal.defs (F := Idealize.ShloMosaic.Ideal)) _ _).mono (fun r h => ⟨fun c => (h c).2, sem_eq_zero_of_no_sems rfl r.2⟩) (Cert.Reference4Ideal.Value.run m g)
theorem reference5_frame : Cert.quiescent_Reference5Ideal := fun m g _ =>
  (θ_run (Cert.Reference5Ideal.defs (F := Idealize.ShloMosaic.Ideal)) _ _).mono (fun r h => ⟨fun c => (h c).2.2.2, sem_eq_zero_of_no_sems rfl r.2⟩) (Cert.Reference5Ideal.Value.run m g)
theorem reference6_frame : Cert.quiescent_Reference6Ideal := fun m g _ =>
  (θ_run (Cert.Reference6Ideal.defs (F := Idealize.ShloMosaic.Ideal)) _ _).mono (fun r h => ⟨fun c => (h c).2, sem_eq_zero_of_no_sems rfl r.2⟩) (Cert.Reference6Ideal.Value.run m g)
theorem reference7_frame : Cert.quiescent_Reference7Ideal := fun m g _ =>
  (θ_run (Cert.Reference7Ideal.defs (F := Idealize.ShloMosaic.Ideal)) _ _).mono (fun r h => ⟨fun c => (h c).2, sem_eq_zero_of_no_sems rfl r.2⟩) (Cert.Reference7Ideal.Value.run m g)
theorem reference8_frame : Cert.quiescent_Reference8Ideal := fun m g _ =>
  (θ_run (Cert.Reference8Ideal.defs (F := Idealize.ShloMosaic.Ideal)) _ _).mono (fun r h => ⟨fun c => (h c).2.2.2, sem_eq_zero_of_no_sems rfl r.2⟩) (Cert.Reference8Ideal.Value.run m g)
theorem reference9_frame : Cert.quiescent_Reference9Ideal := fun m g _ =>
  (θ_run (Cert.Reference9Ideal.defs (F := Idealize.ShloMosaic.Ideal)) _ _).mono (fun r h => ⟨fun c => (h c).2.2, sem_eq_zero_of_no_sems rfl r.2⟩) (Cert.Reference9Ideal.Value.run m g)

/-- The dense feed-forward block and its reference end at one value. -/
theorem value2 : Cert.algebraic_Kernel2Ideal_Reference2Ideal := by
  intro m g m' g' h hm
  refine ⟨Cert.Kernel2Ideal.Ffn.REF m, ?_, ?_⟩
  · run_from Cert.Kernel2Ideal.Gen.run_main m g
    exact Cert.Kernel2Ideal.Ffn.final m c
  · exact (θ_run (Cert.Reference2Ideal.defs (F := Idealize.ShloMosaic.Ideal)) _ _).mono (fun r hr c => ⟨by
      have h0 := (hr c).1
      obtain ⟨e0, e1, e2, e3, e4, e5, e6⟩ := hm c
      rw [Cert.Reference2Ideal.Read.val_main_v29_eq, e0, e1, e2, e3, e4, e5, e6] at h0
      exact h0, (hr c).2⟩) (Cert.Reference2Ideal.Value.run m' g')

/-- The normalised rows' projection and its reference end at one value. -/
theorem value3 : Cert.algebraic_Kernel3Ideal_Reference3Ideal := by
  intro m g m' g' h hm
  refine ⟨Cert.Kernel3Ideal.Projection.REF m, Cert.Kernel3Ideal.Projection.TAIL m, ?_, ?_⟩
  · run_from Cert.Kernel3Ideal.Gen.run_main m g
    · exact Cert.Kernel3Ideal.Projection.result m c
    · exact Cert.Kernel3Ideal.Projection.result_tail m c
    · exact Cert.Kernel3Ideal.Gen.W_main_arg1 m _ c
    · exact Cert.Kernel3Ideal.Gen.W_main_arg4 m _ c
  · exact (θ_run (Cert.Reference3Ideal.defs (F := Idealize.ShloMosaic.Ideal)) _ _).mono (fun r hr c => by
      have h := hr c
      obtain ⟨e0, e1, e2, e3, e4⟩ := hm c
      obtain ⟨h0, h1, hargs⟩ := h
      rw [e0, e1, e2, e3, e4] at h0 h1
      exact ⟨h0, h1, hargs⟩) (Cert.Reference3Ideal.Value.run m' g')

/-- The projection with a residual and its reference end at one value. -/
theorem value4 : Cert.algebraic_Kernel4Ideal_Reference4Ideal := by
  intro m g m' g' h hm
  refine ⟨Cert.Kernel4Ideal.Residual.REF m, ?_, ?_⟩
  · run_from Cert.Kernel4Ideal.Gen.run_main m g
    exact Cert.Kernel4Ideal.Residual.final m c
  · exact (θ_run (Cert.Reference4Ideal.defs (F := Idealize.ShloMosaic.Ideal)) _ _).mono (fun r hr c => ⟨by
      have h0 := (hr c).1
      obtain ⟨e0, e1, e2, e3⟩ := hm c
      rw [e0, e1, e2, e3] at h0
      exact h0, (hr c).2⟩) (Cert.Reference4Ideal.Value.run m' g')

/-- The same projection at the sparse attention's weights. -/
theorem value5 : Cert.algebraic_Kernel5Ideal_Reference5Ideal := by
  intro m g m' g' h hm
  refine ⟨Cert.Kernel5Ideal.ProjectionNsa.REF m, Cert.Kernel5Ideal.ProjectionNsa.CACHE m, Cert.Kernel5Ideal.ProjectionNsa.WINDOW m, ?_, ?_⟩
  · run_from Cert.Kernel5Ideal.Gen.run_main m g
    · exact Cert.Kernel5Ideal.ProjectionNsa.result m c
    · exact Cert.Kernel5Ideal.ProjectionNsa.result_cache m c
    · exact Cert.Kernel5Ideal.ProjectionNsa.result_window m c
    · exact Cert.Kernel5Ideal.Gen.W_main_arg1 m _ c
    · exact Cert.Kernel5Ideal.Gen.W_main_arg4 m _ c
  · exact (θ_run (Cert.Reference5Ideal.defs (F := Idealize.ShloMosaic.Ideal)) _ _).mono (fun r hr c => by
      have h := hr c
      obtain ⟨e0, e1, e2, e3, e4⟩ := hm c
      obtain ⟨h0, h1, h2, hargs⟩ := h
      rw [e0, e1, e2, e3, e4] at h0 h1 h2
      exact ⟨h0, h1, h2, hargs⟩) (Cert.Reference5Ideal.Value.run m' g')

/-- The same projection at the state-space mixer's weights. -/
theorem value6 : Cert.algebraic_Kernel6Ideal_Reference6Ideal := by
  intro m g m' g' h hm
  refine ⟨Cert.Kernel6Ideal.ProjectionS5.REF m, ?_, ?_⟩
  · run_from Cert.Kernel6Ideal.Gen.run_main m g
    exact Cert.Kernel6Ideal.ProjectionS5.final m c
  · exact (θ_run (Cert.Reference6Ideal.defs (F := Idealize.ShloMosaic.Ideal)) _ _).mono (fun r hr c => ⟨by
      have h0 := (hr c).1
      obtain ⟨e0, e1, e2, e3, e4⟩ := hm c
      rw [e0, e1, e2, e3, e4] at h0
      exact h0, (hr c).2⟩) (Cert.Reference6Ideal.Value.run m' g')

/-- The block compression and its reference end at one value. -/
theorem value7 : Cert.algebraic_Kernel7Ideal_Reference7Ideal := by
  intro m g m' g' h hm
  refine ⟨Cert.Kernel7Ideal.Compress.REF m, ?_, ?_⟩
  · run_from Cert.Kernel7Ideal.Gen.run_main m g
    · exact Cert.Kernel7Ideal.Compress.result m c
    · exact Cert.Kernel7Ideal.Gen.W_main_arg0 m _ c
    · exact Cert.Kernel7Ideal.Gen.W_main_arg1 m _ c
    · exact Cert.Kernel7Ideal.Gen.W_main_arg2 m _ c
    · exact Cert.Kernel7Ideal.Gen.W_main_arg3 m _ c
  · exact (θ_run (Cert.Reference7Ideal.defs (F := Idealize.ShloMosaic.Ideal)) _ _).mono (fun r hr c => ⟨by
      have h0 := (hr c).1
      obtain ⟨e0, e1, e2, e3⟩ := hm c
      rw [Cert.Reference7Ideal.Read.val_main_v27_eq, e0, e1, e2, e3] at h0
      exact h0, (hr c).2⟩) (Cert.Reference7Ideal.Value.run m' g')

/-- The sample's projection in the sparse attention, with the keys and values that are kept. -/
theorem value8 : Cert.algebraic_Kernel8Ideal_Reference8Ideal := by
  intro m g m' g' h hm
  refine ⟨Cert.Kernel8Ideal.SampleNsa.REF m, Cert.Kernel8Ideal.SampleNsa.CACHE m, Cert.Kernel8Ideal.SampleNsa.WINDOW m, ?_, ?_⟩
  · run_from Cert.Kernel8Ideal.Gen.run_main m g
    · exact Cert.Kernel8Ideal.SampleNsa.result m c
    · exact Cert.Kernel8Ideal.SampleNsa.result_cache m c
    · exact Cert.Kernel8Ideal.SampleNsa.result_window m c
    · exact Cert.Kernel8Ideal.Gen.W_main_arg1 m _ c
    · exact Cert.Kernel8Ideal.Gen.W_main_arg2 m _ c
    · exact Cert.Kernel8Ideal.Gen.W_main_arg3 m _ c
    · exact Cert.Kernel8Ideal.Gen.W_main_arg4 m _ c
    · exact Cert.Kernel8Ideal.Gen.W_main_arg5 m _ c
  · exact (θ_run (Cert.Reference8Ideal.defs (F := Idealize.ShloMosaic.Ideal)) _ _).mono (fun r hr c => by
      have h := hr c
      obtain ⟨e0, e1, e2, e3, e4, e5⟩ := hm c
      obtain ⟨h0, h1, h2, hargs⟩ := h
      rw [e0, e1, e2, e3, e4] at h0 h1
      rw [e0, e1, e2, e3, e4, e5] at h2
      exact ⟨h0, h1, h2, hargs⟩) (Cert.Reference8Ideal.Value.run m' g')

/-- The sample's projection in the gated DeltaNet layer, with the convolution's buffer. -/
theorem value9 : Cert.algebraic_Kernel9Ideal_Reference9Ideal := by
  intro m g m' g' h hm
  refine ⟨Cert.Kernel9Ideal.SampleGdn.REF m, Cert.Kernel9Ideal.SampleGdn.TAIL m, ?_, ?_⟩
  · run_from Cert.Kernel9Ideal.Gen.run_main m g
    · exact Cert.Kernel9Ideal.SampleGdn.result m c
    · exact Cert.Kernel9Ideal.SampleGdn.result_tail m c
    · exact Cert.Kernel9Ideal.Gen.W_main_arg1 m _ c
    · exact Cert.Kernel9Ideal.Gen.W_main_arg2 m _ c
    · exact Cert.Kernel9Ideal.Gen.W_main_arg3 m _ c
    · exact Cert.Kernel9Ideal.Gen.W_main_arg4 m _ c
    · exact Cert.Kernel9Ideal.Gen.W_main_arg5 m _ c
  · exact (θ_run (Cert.Reference9Ideal.defs (F := Idealize.ShloMosaic.Ideal)) _ _).mono (fun r hr c => by
      have h := hr c
      obtain ⟨e0, e1, e2, e3, e4, e5⟩ := hm c
      obtain ⟨h0, h1, hargs⟩ := h
      rw [e0, e1, e2, e3, e4] at h0
      rw [e0, e1, e2, e3, e4, e5] at h1
      exact ⟨h0, h1, hargs⟩) (Cert.Reference9Ideal.Value.run m' g')

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_routed.Gen.facts, Cert.On_used_rows.Gen.facts,
  fun m g h => Cert.Kernel.Moe.frame_of_routed (routed_of_pre m h) g,
  fun m g h => Cert.KernelIdeal.Moe.run_same _ _ (Cert.Kernel.Moe.frame_of_routed (routed_of_preI m h) g),
  reference_frame,
  fun m g _ => reference_frame m g trivial,
  fun m g _ => Cert.Kernel2.Gen.frame m g,
  fun m g _ => Cert.Kernel2Ideal.Gen.frame m g,
  reference2_frame,
  fun m g _ => Cert.Kernel3.Gen.frame m g,
  fun m g _ => Cert.Kernel3Ideal.Gen.frame m g,
  reference3_frame,
  fun m g _ => Cert.Kernel4.Gen.frame m g,
  fun m g _ => Cert.Kernel4Ideal.Gen.frame m g,
  reference4_frame,
  fun m g _ => Cert.Kernel5.Gen.frame m g,
  fun m g _ => Cert.Kernel5Ideal.Gen.frame m g,
  reference5_frame,
  fun m g _ => Cert.Kernel6.Gen.frame m g,
  fun m g _ => Cert.Kernel6Ideal.Gen.frame m g,
  reference6_frame,
  fun m g _ => Cert.Kernel7.Gen.frame m g,
  fun m g _ => Cert.Kernel7Ideal.Gen.frame m g,
  reference7_frame,
  fun m g _ => Cert.Kernel8.Gen.frame m g,
  fun m g _ => Cert.Kernel8Ideal.Gen.frame m g,
  reference8_frame,
  fun m g _ => Cert.Kernel9.Gen.frame m g,
  fun m g _ => Cert.Kernel9Ideal.Gen.frame m g,
  reference9_frame,
  trivial, value, trivial, value2, trivial, value3, trivial, value4, trivial, value5, trivial, value6, trivial, value7, trivial, value8, trivial, value9⟩

end Cert.Proof

end
